-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8388608 : Shape := ⟨1, ![8388608]⟩
abbrev S8192 : Shape := ⟨1, ![8192]⟩
abbrev S_ : Shape := ⟨0, ![]⟩
abbrev S8191 : Shape := ⟨1, ![8191]⟩
abbrev S1 : Shape := ⟨1, ![1]⟩

class Facts : Prop where
  bcast_S_S8191 : S_.BroadcastsInDim S8191 (![] : Fin 0 → Fin S8191.rank)
  shapeCasts_S_S1 : S_.ShapeCasts S1
  bcast_S1_S8191_0 : S1.BroadcastsInDim S8191 (![0] : Fin 1 → Fin S8191.rank)
  bcast_S_S1 : S_.BroadcastsInDim S1 (![] : Fin 0 → Fin S1.rank)
  concatenates_S8191_S1_S8192_d0 : Shape.Concatenates [S8191, S1] S8192 0
  bcast_S_S8388608 : S_.BroadcastsInDim S8388608 (![] : Fin 0 → Fin S8388608.rank)
  reducesTo_S8388608_S_d0 : S8388608.ReducesTo [0] S_
  h_S_ : 0 < S_.numel
  reducesTo_S8192_S_d0 : S8192.ReducesTo [0] S_
  bcast_S_S8192 : S_.BroadcastsInDim S8192 (![] : Fin 0 → Fin S8192.rank)

variable [Facts]

def fn_linspace {F : FTy → Type} [FloatOps F] (arg0 : FVec F S_ .f32) (arg1 : FVec F S_ .f32) : FVec F S8192 .f32 :=
  let v0 : FVec F S_ .f32 := id arg0
  let v1 : FVec F S_ .f32 := id arg1
  let v2 : FVec F S_ .f32 := subf v1 v0
  let cst : FVec F S_ .f32 := constant S_ .f32 0x45FFF800#32
  let v3 : FVec F S_ .f32 := Host.divf v2 cst
  let v4 : FVec F S8191 .f32 := sitofp .f32 (iotaInDim S8191 32 0)
  let cst_0 : FVec F S_ .f32 := constant S_ .f32 0x45FFF800#32
  let v5 : FVec F S8191 .f32 := broadcastInDim S8191 ![] bcast_S_S8191 cst_0
  let v6 : FVec F S8191 .f32 := Host.divf v4 v5
  let v7 : FVec F S1 .f32 := shapeCast S1 v0 shapeCasts_S_S1
  let cst_1 : FVec F S_ .f32 := constant S_ .f32 0x3F800000#32
  let v8 : FVec F S8191 .f32 := broadcastInDim S8191 ![] bcast_S_S8191 cst_1
  let v9 : FVec F S8191 .f32 := subf v8 v6
  let v10 : FVec F S8191 .f32 := broadcastInDim S8191 ![0] bcast_S1_S8191_0 v7
  let v11 : FVec F S8191 .f32 := mulf v10 v9
  let v12 : FVec F S1 .f32 := shapeCast S1 v1 shapeCasts_S_S1
  let v13 : FVec F S8191 .f32 := broadcastInDim S8191 ![0] bcast_S1_S8191_0 v12
  let v14 : FVec F S8191 .f32 := mulf v13 v6
  let v15 : FVec F S8191 .f32 := addf v11 v14
  let v16 : FVec F S1 .f32 := broadcastInDim S1 ![] bcast_S_S1 v1
  let v17 : FVec F S8192 .f32 := (fun a b => concatenate S8192 0 [⟨S8191, a⟩, ⟨S1, b⟩] concatenates_S8191_S1_S8192_d0) v15 v16
  v17

def fn {F : FTy → Type} [FloatOps F] (main_arg0 : FVec F S8388608 .f32) (main_arg1 : FVec F S8192 .f32) (main_arg2 : FVec F S8192 .f32) : IVec S_ 1 :=
  let main_cst : FVec F S_ .f32 := constant S_ .f32 0x00000000#32
  let main_cst_0 : FVec F S_ .f32 := constant S_ .f32 0x3F800000#32
  let main_v0 : FVec F S8192 .f32 := fn_linspace (F := F) main_cst main_cst_0
  let main_cst_1 : FVec F S_ .f32 := constant S_ .f32 0x00000000#32
  let main_v1 : FVec F S8388608 .f32 := broadcastInDim S8388608 ![] bcast_S_S8388608 main_cst_1
  let main_v2 : IVec S8388608 1 := cmpf .oge main_arg0 main_v1
  let main_cst_2 : FVec F S_ .f32 := constant S_ .f32 0x3F800000#32
  let main_v3 : FVec F S8388608 .f32 := broadcastInDim S8388608 ![] bcast_S_S8388608 main_cst_2
  let main_v4 : IVec S8388608 1 := cmpf .ole main_arg0 main_v3
  let main_v5 : IVec S8388608 1 := andi main_v2 main_v4
  let main_c : IVec S_ 1 := constantI S_ 1 1#1
  let main_v6 : IVec S_ 1 := (fun x v => Host.reduce IntOp.andi x v reducesTo_S8388608_S_d0 h_S_) main_v5 main_c
  let main_v7 : IVec S8192 1 := cmpf .oeq main_arg1 main_v0
  let main_c_3 : IVec S_ 1 := constantI S_ 1 1#1
  let main_v8 : IVec S_ 1 := (fun x v => Host.reduce IntOp.andi x v reducesTo_S8192_S_d0 h_S_) main_v7 main_c_3
  let main_v9 : IVec S_ 1 := andi main_v6 main_v8
  let main_v10 : FVec F S8192 .f32 := Host.absf main_arg2
  let main_cst_4 : FVec F S_ .f32 := constant S_ .f32 0x7F800000#32
  let main_v11 : FVec F S8192 .f32 := broadcastInDim S8192 ![] bcast_S_S8192 main_cst_4
  let main_v12 : IVec S8192 1 := cmpf .olt main_v10 main_v11
  let main_c_5 : IVec S_ 1 := constantI S_ 1 1#1
  let main_v13 : IVec S_ 1 := (fun x v => Host.reduce IntOp.andi x v reducesTo_S8192_S_d0 h_S_) main_v12 main_c_5
  let main_v14 : IVec S_ 1 := andi main_v9 main_v13
  main_v14
-- ==== Kernel.lean ====
abbrev S8388608 : Shape := ⟨1, ![8388608]⟩
abbrev S8192 : Shape := ⟨1, ![8192]⟩
abbrev S16384 : Shape := ⟨1, ![16384]⟩
abbrev S_ : Shape := ⟨0, ![]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S8388608, .f32⟩
  | .hbm, ⟨1, _⟩ => ⟨S8192, .f32⟩
  | .hbm, ⟨2, _⟩ => ⟨S8192, .f32⟩
  | .hbm, ⟨3, _⟩ => ⟨S8388608, .f32⟩
  | .local .scVector .vmem, ⟨0, _⟩ => ⟨S8192, .f32⟩
  | .local .scVector .vmem, ⟨1, _⟩ => ⟨S16384, .f32⟩
  | .local .scVector .vmem, ⟨2, _⟩ => ⟨S16384, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_0 : BitVec 32 := 0#32
  let c1_i32 : BitVec 32 := 1#32
  let arg9 : BitVec 32 := Scf.iv c0_i32_0 c1_i32 k0_t1
  let c16384_i32 : BitVec 32 := 16384#32
  let v4 : BitVec 32 := Scalar.muli arg9 c16384_i32
  let v5 : BitVec 32 := Scalar.addi v2 v4
  ![v5.toNat]
@[reducible] def k0_t2_loop : Scf.Loop 32 :=
  let c0_i32_3 : BitVec 32 := 0#32
  let c1024_i32 : BitVec 32 := 1024#32
  let v6 : BitVec 32 := Scalar.addi c0_i32_3 c1024_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c16_i32_6 : BitVec 32 := 16#32
  let v7 : BitVec 32 := Scalar.muli arg10 c16_i32_6
  let v8 : Index := Scalar.indexCast v7
  ![v8.toNat]

def k0_chk1 (v16 : IVec S16 32) : Prop :=
  (∀ a x, ((![v16] : Fin 1 → IVec S16 32) a x).toNat < S8192.size a)
theorem k0_idx1_inb : ∀ (v16 : IVec S16 32) (k0_hw1 : k0_chk1 v16), ∀ a x, ((![v16] : Fin 1 → IVec S16 32) a x).toNat < S8192.size a := fun v16 k0_hw1 => k0_hw1

def k0_chk2 (v21 : IVec S16 32) : Prop :=
  (∀ a x, ((![v21] : Fin 1 → IVec S16 32) a x).toNat < S8192.size a)
theorem k0_idx2_inb : ∀ (v21 : IVec S16 32) (k0_hw2 : k0_chk2 v21), ∀ a x, ((![v21] : Fin 1 → IVec S16 32) a x).toNat < S8192.size a := fun v21 k0_hw2 => k0_hw2
def k0_off3 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c16_i32_6 : BitVec 32 := 16#32
  let v7 : BitVec 32 := Scalar.muli arg10 c16_i32_6
  let v26 : Index := Scalar.indexCast v7
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S8192 : Shape := ⟨1, ![8192]⟩
abbrev S1x8192 : Shape := ⟨2, ![1, 8192]⟩
abbrev S8388608x1 : Shape := ⟨2, ![8388608, 1]⟩
abbrev S8388608x8192 : Shape := ⟨2, ![8388608, 8192]⟩
abbrev S_ : Shape := ⟨0, ![]⟩
abbrev S1 : Shape := ⟨1, ![1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S8388608, .f32⟩
  | 1 => ⟨S8192, .f32⟩
  | 2 => ⟨S8192, .f32⟩
  | 3 => ⟨S1x8192, .f32⟩
  | 4 => ⟨S8388608x1, .f32⟩
  | 5 => ⟨S8388608x8192, .f32⟩
  | 6 => ⟨S8388608x8192, .f32⟩
  | 7 => ⟨S8388608x8192, .i1⟩
  | 8 => ⟨S8388608x8192, .i32⟩
  | 9 => ⟨S_, .i32⟩
  | 10 => ⟨S8388608, .i32⟩
  | 11 => ⟨S_, .i32⟩
  | 12 => ⟨S_, .i32⟩
  | 13 => ⟨S_, .i32⟩
  | 14 => ⟨S8388608, .i32⟩
  | 15 => ⟨S8388608, .i32⟩
  | 16 => ⟨S_, .i32⟩
  | 17 => ⟨S8388608, .i32⟩
  | 18 => ⟨S8388608, .i32⟩
  | 19 => ⟨S_, .i32⟩
  | 20 => ⟨S8388608, .i32⟩
  | 21 => ⟨S8388608, .i32⟩
  | 22 => ⟨S_, .i32⟩
  | 23 => ⟨S8388608, .i32⟩
  | 24 => ⟨S8388608, .i1⟩
  | 25 => ⟨S_, .i32⟩
  | 26 => ⟨S8388608, .i32⟩
  | 27 => ⟨S8388608, .i32⟩
  | 28 => ⟨S8388608, .i32⟩
  | 29 => ⟨S8388608x1, .i32⟩
  | 30 => ⟨S1, .i32⟩
  | 31 => ⟨S_, .i32⟩
  | 32 => ⟨S8388608x1, .i32⟩
  | 33 => ⟨S8388608x1, .i1⟩
  | 34 => ⟨S1x1, .i32⟩
  | 35 => ⟨S8388608x1, .i32⟩
  | 36 => ⟨S8388608x1, .i1⟩
  | 37 => ⟨S8388608x1, .i1⟩
  | 38 => ⟨S_, .i1⟩
  | 39 => ⟨S8388608, .i1⟩
  | 40 => ⟨S8388608, .f32⟩
  | 41 => ⟨S_, .f32⟩
  | 42 => ⟨S8388608, .f32⟩
  | 43 => ⟨S8388608, .f32⟩
  | 44 => ⟨S_, .i32⟩
  | 45 => ⟨S8388608, .i32⟩
  | 46 => ⟨S8388608, .i1⟩
  | 47 => ⟨S_, .i32⟩
  | 48 => ⟨S8388608, .i32⟩
  | 49 => ⟨S8388608, .i32⟩
  | 50 => ⟨S8388608, .i32⟩
  | 51 => ⟨S8388608x1, .i32⟩
  | 52 => ⟨S1, .i32⟩
  | 53 => ⟨S_, .i32⟩
  | 54 => ⟨S8388608x1, .i32⟩
  | 55 => ⟨S8388608x1, .i1⟩
  | 56 => ⟨S1x1, .i32⟩
  | 57 => ⟨S8388608x1, .i32⟩
  | 58 => ⟨S8388608x1, .i1⟩
  | 59 => ⟨S8388608x1, .i1⟩
  | 60 => ⟨S_, .i1⟩
  | 61 => ⟨S8388608, .i1⟩
  | 62 => ⟨S8388608, .f32⟩
  | 63 => ⟨S_, .f32⟩
  | 64 => ⟨S8388608, .f32⟩
  | 65 => ⟨S8388608, .f32⟩
  | 66 => ⟨S_, .i32⟩
  | 67 => ⟨S8388608, .i32⟩
  | 68 => ⟨S8388608, .i32⟩
  | 69 => ⟨S_, .i32⟩
  | 70 => ⟨S8388608, .i32⟩
  | 71 => ⟨S8388608, .i1⟩
  | 72 => ⟨S_, .i32⟩
  | 73 => ⟨S8388608, .i32⟩
  | 74 => ⟨S8388608, .i32⟩
  | 75 => ⟨S8388608, .i32⟩
  | 76 => ⟨S8388608x1, .i32⟩
  | 77 => ⟨S1, .i32⟩
  | 78 => ⟨S_, .i32⟩
  | 79 => ⟨S8388608x1, .i32⟩
  | 80 => ⟨S8388608x1, .i1⟩
  | 81 => ⟨S1x1, .i32⟩
  | 82 => ⟨S8388608x1, .i32⟩
  | 83 => ⟨S8388608x1, .i1⟩
  | 84 => ⟨S8388608x1, .i1⟩
  | 85 => ⟨S_, .i1⟩
  | 86 => ⟨S8388608, .i1⟩
  | 87 => ⟨S8388608, .f32⟩
  | 88 => ⟨S_, .f32⟩
  | 89 => ⟨S8388608, .f32⟩
  | 90 => ⟨S8388608, .f32⟩
  | 91 => ⟨S_, .i32⟩
  | 92 => ⟨S8388608, .i32⟩
  | 93 => ⟨S8388608, .i1⟩
  | 94 => ⟨S_, .i32⟩
  | 95 => ⟨S8388608, .i32⟩
  | 96 => ⟨S8388608, .i32⟩
  | 97 => ⟨S8388608, .i32⟩
  | 98 => ⟨S8388608x1, .i32⟩
  | 99 => ⟨S1, .i32⟩
  | 100 => ⟨S_, .i32⟩
  | 101 => ⟨S8388608x1, .i32⟩
  | 102 => ⟨S8388608x1, .i1⟩
  | 103 => ⟨S1x1, .i32⟩
  | 104 => ⟨S8388608x1, .i32⟩
  | 105 => ⟨S8388608x1, .i1⟩
  | 106 => ⟨S8388608x1, .i1⟩
  | 107 => ⟨S_, .i1⟩
  | 108 => ⟨S8388608, .i1⟩
  | 109 => ⟨S8388608, .f32⟩
  | 110 => ⟨S_, .f32⟩
  | 111 => ⟨S8388608, .f32⟩
  | 112 => ⟨S8388608, .f32⟩
  | 113 => ⟨S8388608, .f32⟩
  | 114 => ⟨S8388608, .f32⟩
  | 115 => ⟨S8388608, .f32⟩
  | 116 => ⟨S8388608, .f32⟩
  | 117 => ⟨S8388608, .f32⟩
  | 118 => ⟨S8388608, .f32⟩
  | 119 => ⟨S1, .f32⟩
  | 120 => ⟨S_, .f32⟩
  | 121 => ⟨S8388608, .f32⟩
  | 122 => ⟨S8388608, .i1⟩
  | 123 => ⟨S1, .f32⟩
  | 124 => ⟨S_, .f32⟩
  | 125 => ⟨S8388608, .f32⟩
  | 126 => ⟨S8388608, .f32⟩
  | 127 => ⟨S1, .f32⟩
  | _ => ⟨S8388608, .f32⟩

abbrev hbmTy0_1 (i : Nat) : BufTy := match i % 128 with
  | 0 => ⟨S_, .f32⟩
  | 1 => ⟨S8388608, .f32⟩
  | 2 => ⟨S8388608, .i1⟩
  | 3 => ⟨S1, .f32⟩
  | 4 => ⟨S_, .f32⟩
  | 5 => ⟨S8388608, .f32⟩
  | 6 => ⟨S8388608, .f32⟩
  | _ => ⟨S8388608, .f32⟩

abbrev hbmTy (i : Nat) : BufTy := match i / 128 with
  | 0 => hbmTy0_0 i
  | 1 => hbmTy0_1 i
  | _ => ⟨S8388608, .f32⟩

abbrev bufTy : (tb : Table) → Fin (tcTables nBuf tb) → BufTy
  | .hbm, ⟨i, _⟩ => hbmTy i
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v10 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v11 : Ref sig .tc := ⟨.hbm, 65, rfl⟩
abbrev main_c_3 : Ref sig .tc := ⟨.hbm, 66, rfl⟩
abbrev main_v12 : Ref sig .tc := ⟨.hbm, 67, rfl⟩
abbrev main_v13 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_cst : Ref sig .tc := ⟨.hbm, 88, rfl⟩
abbrev main_call3_v14 : Ref sig .tc := ⟨.hbm, 89, rfl⟩
abbrev main_v14 : Ref sig .tc := ⟨.hbm, 90, rfl⟩
abbrev main_call4_c : Ref sig .tc := ⟨.hbm, 91, rfl⟩
abbrev main_call4_v0 : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_c_1 : Ref sig .tc := ⟨.hbm, 99, rfl⟩
abbrev main_call4_c_2 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_c_3 : Ref sig .tc := ⟨.hbm, 107, rfl⟩
abbrev main_call4_v12 : Ref sig .tc := ⟨.hbm, 108, rfl⟩
abbrev main_call4_v13 : Ref sig .tc := ⟨.hbm, 109, rfl⟩
abbrev main_call4_cst : Ref sig .tc := ⟨.hbm, 110, rfl⟩
abbrev main_call4_v14 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_call5_v0 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_call6_v0 : Ref sig .tc := ⟨.hbm, 133, rfl⟩
abbrev main_v35 : Ref sig .tc := ⟨.hbm, 134, rfl⟩

abbrev nD : Nat := 1
abbrev τ : Topo := Topo.v7x

variable {F : FTy → Type} [FloatOps F]
-- ==== Proof.Lane.lean ====
/-
  What one lane of the kernel computes, as a function of the table `fp` and of one sample `x`: the position
  `t = 8191 · x` on the table, the cell `j` it falls in (truncated, clamped to 0 … 8190), and the value on the segment
  from `fp j` to `fp (j + 1)` at the offset `t - j`. Stated for every reading of the floats; the kernel's named vector
  payloads are these functions lane by lane.
-/
module

public import proofs.«01_k».proof.Proof.Gen.Kernel
public import proofs.«01_k».proof.Proof.Gen.Kernel.Skeleton

@[expose] public section

noncomputable section

namespace Cert.Proof.Lane

open Cert.Kernel Cert.Kernel.Gen
open Idealize.ShloMosaic

variable {F : FTy → Type} [FloatOps F]

/-- The sample's position on the table: `8191 · x`. -/
def tOf (x : F .f32) : F .f32 := FloatOps.mulf x (Scalar.ofBits .f32 0x45FFF800#32)

/-- The cell of the table the position falls in: its integer part, clamped to 0 … 8190. -/
def jOf (x : F .f32) : BitVec 32 := IntOp.minsi (IntOp.maxsi (FloatOps.fptosi 32 (tOf x)) 0#32) 8190#32

/-- A word clamped to 0 … 8190 is at most 8190. -/
theorem clamp_le (v : BitVec 32) : (IntOp.minsi (IntOp.maxsi v 0#32) 8190#32).toNat ≤ 8190 := by
  unfold IntOp.minsi IntOp.maxsi
  simp only [BitVec.slt_eq_decide, BitVec.sle_eq_decide, decide_eq_true_eq, BitVec.toInt_eq_toNat_cond]
  split_ifs <;> simp_all <;> omega

theorem jOf_le (x : F .f32) : (jOf x).toNat ≤ 8190 := clamp_le _

theorem jOf_lt (x : F .f32) : (jOf x).toNat < 8192 := by have := jOf_le x; omega

theorem jOf_succ (x : F .f32) : (IntOp.addi (jOf x) 1#32).toNat = (jOf x).toNat + 1 := by
  have h := jOf_le x
  unfold IntOp.addi
  rw [BitVec.toNat_add]
  simp only [BitVec.toNat_ofNat, Nat.reducePow, Nat.reduceMod]
  omega

/-- Entry `n` of a table of 8192 entries. -/
def entry (fp : S8192.Idx → F .f32) (n : ℕ) (h : n < 8192) : F .f32 := fp (Shape.ofLane (d := ![8192]) ⟨n, h⟩)

/-- One lane: the value at `t` on the segment from `fp j` to `fp (j + 1)`. -/
def lane (fp : S8192.Idx → F .f32) (x : F .f32) : F .f32 :=
  FloatOps.addf (entry fp (jOf x).toNat (jOf_lt x))
    (FloatOps.mulf
      (FloatOps.subf (entry fp ((jOf x).toNat + 1) (by have := jOf_le x; omega)) (entry fp (jOf x).toNat (jOf_lt x)))
      (FloatOps.subf (tOf x) (FloatOps.sitofp .f32 (jOf x))))

/-- The kernel's index vector, lane by lane. -/
theorem pay2_apply (v : Vec F S16 .f32) (l : S16.Idx) : k0_pay2 v l = jOf (v l) := rfl
theorem pay3_apply (v : Vec F S16 .f32) (l : S16.Idx) : k0_pay3 (k0_pay2 v) l = IntOp.addi (jOf (v l)) 1#32 := rfl

/-- Both index vectors name entries of the table. -/
theorem chk1 (v : Vec F S16 .f32) : k0_chk1 (k0_pay2 v) := by
  intro a l
  obtain rfl : a = 0 := Subsingleton.elim _ _
  exact jOf_lt (v l)
theorem chk2 (v : Vec F S16 .f32) : k0_chk2 (k0_pay3 (k0_pay2 v)) := by
  intro a l
  obtain rfl : a = 0 := Subsingleton.elim _ _
  show (IntOp.addi (jOf (v l)) 1#32).toNat < 8192
  rw [jOf_succ]; have := jOf_le (v l); omega

/-- The vector the kernel stores, lane by lane. -/
theorem pay4_apply (fp : S8192.Idx → F .f32) (v : Vec F S16 .f32)
    (h₁ : ∀ a x, ((![k0_pay2 v] : Fin 1 → IVec S16 32) a x).toNat < S8192.size a)
    (h₂ : ∀ a x, ((![k0_pay3 (k0_pay2 v)] : Fin 1 → IVec S16 32) a x).toNat < S8192.size a) (l : S16.Idx) :
    k0_pay4 v (k0_pay2 v) (loadIdx (F := F) (e := .f32) fp ![k0_pay2 v] h₁) (loadIdx (F := F) (e := .f32) fp ![k0_pay3 (k0_pay2 v)] h₂) l
      = lane fp (v l) := by
  have e₁ : loadIdx (F := F) (e := .f32) fp ![k0_pay2 v] h₁ l = entry fp (jOf (v l)).toNat (jOf_lt _) := by
    unfold loadIdx entry
    congr 1; funext a
    obtain rfl : a = 0 := Subsingleton.elim _ _
    rfl
  have e₂ : loadIdx (F := F) (e := .f32) fp ![k0_pay3 (k0_pay2 v)] h₂ l
      = entry fp ((jOf (v l)).toNat + 1) (by have := jOf_le (v l); omega) := by
    unfold loadIdx entry
    congr 1; funext a
    obtain rfl : a = 0 := Subsingleton.elim _ _
    apply Fin.ext
    exact jOf_succ (v l)
  show FloatOps.addf (loadIdx (F := F) (e := .f32) fp ![k0_pay2 v] h₁ l)
      (FloatOps.mulf (FloatOps.subf (loadIdx (F := F) (e := .f32) fp ![k0_pay3 (k0_pay2 v)] h₂ l) (loadIdx (F := F) (e := .f32) fp ![k0_pay2 v] h₁ l))
        (FloatOps.subf (tOf (v l)) (FloatOps.sitofp .f32 (jOf (v l))))) = _
  rw [e₁, e₂]; rfl

end Cert.Proof.Lane

end
-- ==== Proof.Launch.lean ====
/-
  The kernel as the launch theorem sees it: the program's call, the resource algebra (the handshakes' rounds beside the
  transfers' counters), the arrays, and what the call hands each tile and takes back. Tile `(c, s)` is handed a read
  share of the samples `x` and of the table `fp` and its sixteen chunks of the result; it hands the same back, the
  chunks at `gOut`: every element the kernel's lane function of its sample.
-/
module

public import proofs.«01_k».proof.Defs
public import proofs.«01_k».proof.Proof.Lane
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Krn

open Cert.Kernel Cert.Kernel.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are distinct where they must be, and none is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The samples, the grid points (which the kernel never reads), the table and the result. -/
abbrev xLoc (d : Dev nD) : Loc nD τ sig := (SparseCore.T d).loc main_arg0
abbrev pLoc (d : Dev nD) : Loc nD τ sig := (SparseCore.T d).loc main_arg1
abbrev fLoc (d : Dev nD) : Loc nD τ sig := (SparseCore.T d).loc main_arg2
abbrev oLoc (d : Dev nD) : Loc nD τ sig := (SparseCore.T d).loc main_v0

abbrev xV : Memref sig .scVector .hbm S8388608 .f32 := Memref.whole main_arg0_scv
abbrev pV : Memref sig .scVector .hbm S8192 .f32 := Memref.whole main_arg1_scv
abbrev fV : Memref sig .scVector .hbm S8192 .f32 := Memref.whole main_arg2_scv
abbrev oV : Memref sig .scVector .hbm S8388608 .f32 := Memref.whole main_v0_scv
/-- A tile's scratch: the table, a chunk of samples, a chunk of results. -/
abbrev sF : Memref sig .scVector .vmem S8192 .f32 := Memref.whole cc0_scratch0
abbrev sX : Memref sig .scVector .vmem S16384 .f32 := Memref.whole cc0_scratch1
abbrev sY : Memref sig .scVector .vmem S16384 .f32 := Memref.whole cc0_scratch2

variable [FloatOps F]

/-- The result the kernel computes: every element the lane function of its sample. -/
def gOut (d : Dev nD) : Buf (Elt F) (oLoc d) :=
  fun j => lane (F := F) (m (fLoc d) : S8192.Idx → F .f32) ((m (xLoc d) : S8388608.Idx → F .f32) j)

/-! ## The tiles -/

/-- Tile `L`'s SparseCore and its number on it, as the chip numbers them. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- Chunk `k` of tile `L`: its rectangle, and the samples and the results there. -/
abbrev chR (L : grid0.Coords) (k : Fin k0_t1_loop.trips) : Rect S8388608 :=
  Rect.unit (s := S8388608) (k0_off1 L k) S16384.size (k0_off1_inb L k)
abbrev xCh (L : grid0.Coords) (k : Fin k0_t1_loop.trips) : Memref sig .scVector .hbm S16384 .f32 := xV.slice (chR L k) (fun _ => rfl)
abbrev oCh (L : grid0.Coords) (k : Fin k0_t1_loop.trips) : Memref sig .scVector .hbm S16384 .f32 := oV.slice (chR L k) (fun _ => rfl)
/-- The elements of the result in that chunk. -/
abbrev chSet (L : grid0.Coords) (k : Fin k0_t1_loop.trips) : Finset S8388608.Idx := (oCh L k).view.set

/-- Tile `(c, s)`'s number for dealing the read shares. -/
def tileNo (c : Fin (grid0.bound 0)) (s : Fin (grid0.bound 1)) : Fin (2 * 16) := finProdFinEquiv (c, s)
/-- Its read share of an array. -/
def shr (n : Fin (2 * 16)) : PosShare TreeShare := Transfers.shareTok fullShare (2 * 16) n

/-- What a tile holds of the arrays: its read shares, and its chunks of the result at `f`. -/
def tilePts (d : Dev nD) (c : Fin (grid0.bound 0)) (s : Fin (grid0.bound 1)) (f : Buf (Elt F) (oLoc d)) : sProp 𝕄 :=
  iprop((xLoc d ↦{shr (tileNo c s)} m (xLoc d)) ∗ (fLoc d ↦{shr (tileNo c s)} m (fLoc d))
    ∗ bigSep Finset.univ fun k : Fin k0_t1_loop.trips => oLoc d ↦[chSet (coordsV c s) k]{fullShare} f)

instance tilePts_storable (d : Dev nD) (c : Fin (grid0.bound 0)) (s : Fin (grid0.bound 1)) (f : Buf (Elt F) (oLoc d)) :
    BI.Storable (upEmb : UEmb _ 𝕄) (tilePts m d c s f) := by
  unfold tilePts; infer_instance

/-- What the tiles of SparseCore `c` hold together. -/
def corePts (d : Dev nD) (c : Fin (grid0.bound 0)) (f : Buf (Elt F) (oLoc d)) : sProp 𝕄 :=
  bigSep Finset.univ fun s : Fin (grid0.bound 1) => tilePts m d c s f

instance corePts_storable (d : Dev nD) (c : Fin (grid0.bound 0)) (f : Buf (Elt F) (oLoc d)) :
    BI.Storable (upEmb : UEmb _ 𝕄) (corePts m d c f) := by
  unfold corePts; infer_instance

/-- What the call hands over and takes back. -/
def P : (K (F := F)).Pay (nD := nD) (Val := Elt F) (Name := ℕ) (U := UU) where
  st := fun | 0, d, c => corePts m d c (m (oLoc d))
  dn := fun | 0, d, c => corePts m d c (gOut m d)
  go := fun | 0, d, c, s => tilePts m d c s (m (oLoc d))
  td := fun | 0, d, c, s => tilePts m d c s (gOut m d)
  x := fun _ _ => iprop(emp)

instance P_storable : (P (F := F) m).IsStorable where
  st q d c := match q with | 0 => corePts_storable m d c _
  dn q d c := match q with | 0 => corePts_storable m d c _
  go q d c i := match q with | 0 => tilePts_storable m d c i _
  td q d c i := match q with | 0 => tilePts_storable m d c i _

end Cert.Proof.Krn

end
-- ==== Proof.Inner.lean ====
/-
  The kernel's inner loop on one tile: each trip loads sixteen samples, gathers the table at the two index vectors and
  stores sixteen results, so that after `n` trips the first `16 n` results are the lane function of their samples.
-/
module

public import proofs.«01_k».proof.Proof.Launch
public import Idealize.ShloMosaic.Lib.Pipeline.Value

@[expose] public section

noncomputable section

namespace Cert.Proof.Krn

open Cert.Kernel Cert.Kernel.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Tile `L`'s thread on device `d`. -/
abbrev thr (d : Dev nD) (L : grid0.Coords) : Thread nD τ := V d (cV L) (jV L)

/-- The sixteen samples trip `n` loads, and the sixteen results it stores. -/
abbrev rX (n : Fin k0_t2_loop.trips) : Rect S16384 := Rect.unit (s := S16384) (k0_off2 n) S16.size (k0_off2_inb n)
abbrev rY (n : Fin k0_t2_loop.trips) : Rect S16384 := Rect.unit (s := S16384) (k0_off3 n) S16.size (k0_off3_inb n)

/-- The vector of samples trip `n` loads. -/
abbrev xVec (n : Fin k0_t2_loop.trips) (xf : S16384.Idx → F .f32) : Vec F S16 .f32 :=
  (sX : Memref sig .scVector .vmem S16384 .f32).view.readAt (Elt F) (rX n).toLoadRect xf

/-- Its lane `l` is sample `16 n + l` of the chunk. -/
theorem xVec_apply (n : Fin k0_t2_loop.trips) (xf : S16384.Idx → F .f32) (l : S16.Idx) (j : S16384.Idx)
    (h : (j 0).val = 16 * n.val + (l 0).val) : xVec n xf l = xf j := by
  show xf ((rX n).toLoadRect.idx l) = xf j
  congr 1; funext a
  obtain rfl : a = 0 := Subsingleton.elim _ _
  apply Fin.ext
  rw [LoadRect.idx_apply, h]
  show k0_off2 n 0 + 1 * (l 0).val = _
  rw [k0_off2_eq]
  simp

/-- After trip `n`'s store sixteen more results are in place. -/
theorem store_lanes (n : Fin k0_t2_loop.trips) (ff : S8192.Idx → F .f32) (xf yf : S16384.Idx → F .f32)
    (h₁ : ∀ a x, ((![k0_pay2 (xVec n xf)] : Fin 1 → IVec S16 32) a x).toNat < S8192.size a)
    (h₂ : ∀ a x, ((![k0_pay3 (k0_pay2 (xVec n xf))] : Fin 1 → IVec S16 32) a x).toNat < S8192.size a)
    (hy : ∀ j : S16384.Idx, (j 0).val < 16 * n.val → yf j = lane ff (xf j)) (j : S16384.Idx) (hj : (j 0).val < 16 * (n.val + 1)) :
    ((sY : Memref sig .scVector .vmem S16384 .f32).access (rY n)).write (Elt F) yf
        (k0_pay4 (xVec n xf) (k0_pay2 (xVec n xf)) (loadIdx (F := F) (e := .f32) ff ![k0_pay2 (xVec n xf)] h₁)
          (loadIdx (F := F) (e := .f32) ff ![k0_pay3 (k0_pay2 (xVec n xf))] h₂)) Finset.univ j
      = lane ff (xf j) := by
  refine (congrFun (View.write_whole_slice_unit (Val := Elt F) cc0_scratch2 (k0_off3 n) S16.size (k0_off3_inb n) yf _) j).trans ?_
  unfold updateSlice
  have e3 : k0_off3 n 0 = 16 * n.val := by rw [k0_off3_eq]; rfl
  split
  · next hin =>
    have h0 := hin 0
    refine (pay4_apply ff (xVec n xf) h₁ h₂ _).trans ?_
    congr 1
    refine xVec_apply n xf _ j ?_
    have h1 : k0_off3 n 0 ≤ (j 0).val := h0.1
    show (j 0).val = 16 * n.val + ((j 0).val - k0_off3 n 0)
    omega
  · next hout =>
    refine hy j ?_
    by_contra hlt
    refine hout fun a => ?_
    obtain rfl : a = 0 := Subsingleton.elim (α := Fin 1) _ _
    show k0_off3 n 0 ≤ (j 0).val ∧ (j 0).val < k0_off3 n 0 + 16
    omega

variable (d : Dev nD) (L : grid0.Coords)

/-- The inner loop's invariant: the table's and the chunk's contents as fetched, the first `16 n` results in place. -/
def innerInv (ff : S8192.Idx → F .f32) (xf : S16384.Idx → F .f32) (n : ℕ) (_ : Unit) : sProp 𝕄 :=
  iprop(((sF).view.loc (thr d L) ↦{fullShare} ff) ∗ ((sX).view.loc (thr d L) ↦{fullShare} xf)
    ∗ ∃ yf : S16384.Idx → F .f32, ⌜∀ j : S16384.Idx, (j 0).val < 16 * n → yf j = lane ff (xf j)⌝ ∗ ((sY).view.loc (thr d L) ↦{fullShare} yf))

omit [FloatOps F] in
/-- The gathers read the table scratch whole. -/
theorem read_table (ff : S8192.Idx → F .f32) :
    ((sF : Memref sig .scVector .vmem S8192 .f32).access (.whole S8192)).read (Elt F) ff = ff :=
  Memref.read_access_whole (Elt F) cc0_scratch0 ff

/-- One trip keeps it. -/
theorem inner_trip (ff : S8192.Idx → F .f32) (xf : S16384.Idx → F .f32) (n : Fin k0_t2_loop.trips) (u : Unit) :
    innerInv d L ff xf n.val u
      ⊢ wp frame (wpE (defs₀ (F := F)) 𝒱₀ (thr d L) none) Set.univ
          (k0_t2_body L xV (Memref.isWhole_whole _) pV (Memref.isWhole_whole _) fV (Memref.isWhole_whole _) oV (Memref.isWhole_whole _)
            sF (Memref.isWhole_whole _) sX (Memref.isWhole_whole _) sY (Memref.isWhole_whole _) cc0_scoped0 cc0_scoped1 cc0_scoped2 n u)
          fun r => innerInv d L ff xf (n.val + 1) r := by
  unfold k0_t2_body
  simp only [Prog.lift, Prog.bind_op, Prog.bind_ret, Prog.pure_eq_ret]
  unfold innerInv
  iintro ⟨Hf, Hx, %yf, %hy, Hy⟩
  iapply (wp_load 𝒱₀ (thr d L) none Set.univ (m := sX) (S := Finset.univ) (Finset.subset_univ _)) $$ Hx; iintro Hx
  rw [wp_assume_of _ _ _ _ (chk1 _)]
  iapply (SparseCore.wp_vectorLoadIdx 𝒱₀ (thr d L) none Set.univ (base := sF) (S := Finset.univ) (q := fullShare) (Finset.subset_univ _)) $$ Hf; iintro Hf
  rw [wp_assume_of _ _ _ _ (chk2 _)]
  iapply (SparseCore.wp_vectorLoadIdx 𝒱₀ (thr d L) none Set.univ (base := sF) (S := Finset.univ) (q := fullShare) (Finset.subset_univ _)) $$ Hf; iintro Hf
  iapply (wp_load 𝒱₀ (thr d L) none Set.univ (m := sY) (S := Finset.univ) (Finset.subset_univ _)) $$ Hy; iintro Hy
  iapply (wp_store 𝒱₀ (thr d L) none Set.univ (m := sY) (r := rY n) (Mk := Finset.univ) (S := Finset.univ) (Finset.subset_univ _)) $$ Hy; iintro Hy
  rw [wp_ret]; imodintro
  isplitl [Hf]; · iexact Hf
  isplitl [Hx]; · iexact Hx
  iexists _; isplitr
  rotate_left
  · iexact Hy
  ipureintro
  rw [read_table]
  exact store_lanes n ff xf yf (chk1 _) (chk2 _) hy

end Cert.Proof.Krn

end
-- ==== Proof.Tile.lean ====
/-
  One tile's task: the table fetched, then sixteen chunks, each fetched, computed by the inner loop and written out.
  The outer loop's invariant holds the tile's chunks of the result, those of the trips so far at the lane function.
-/
module

public import proofs.«01_k».proof.Proof.Inner

@[expose] public section

noncomputable section

namespace Cert.Proof.Krn

open Cert.Kernel Cert.Kernel.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (m : (ℓ : Loc nD τ sig) → Buf (Elt F) ℓ)
variable (d : Dev nD) (L : grid0.Coords)

/-- Chunk `k`'s samples, as the fetch leaves them in the tile's scratch. -/
abbrev xBuf (k : Fin k0_t1_loop.trips) : S16384.Idx → F .f32 := (xCh L k).view.read (Elt F) (m (xLoc d))

/-- What the write-out of chunk `k` leaves there is the lane function of the samples. -/
theorem chunk_out (k : Fin k0_t1_loop.trips) (f : Buf (Elt F) (oLoc d)) (yf : S16384.Idx → F .f32)
    (hy : ∀ j : S16384.Idx, yf j = lane (m (fLoc d) : S8192.Idx → F .f32) (xBuf m d L k j)) :
    ∀ i ∈ (oCh L k).view.set, (oCh L k).view.writes (Elt F) f [⟨Rect.whole S16384, yf⟩] i = gOut m d i := by
  intro i hi
  obtain ⟨x, -, rfl⟩ := Finset.mem_map.mp hi
  have he : ((oCh L k).view.slice (Rect.whole S16384)).emb x = (oCh L k).view.emb x :=
    congrArg (oCh L k).view.emb (Rect.emb_whole_apply S16384 x)
  have hw := View.write_emb_of_mem (v := (oCh L k).view.slice (Rect.whole S16384)) (Val := Elt F) f yf (Finset.mem_univ x)
  rw [he] at hw
  refine hw.trans ((cast_eq _ _).trans ?_)
  rw [hy x]; rfl

/-- The invariant of the outer loop after `n` trips. -/
def outerInv (q : PosShare TreeShare) (O : CellTallies nD τ sig (HIx 1)) (W : Waits sig (HIx 1)) (n : ℕ) (_ : Unit) : sProp 𝕄 :=
  iprop(Transfers.MayWaits (thr d L) (none : HIx 1) O
    ∗ ((xV).view.loc (thr d L) ↦{q} m (xLoc d))
    ∗ ((sF).view.loc (thr d L) ↦{fullShare} m (fLoc d))
    ∗ (∃ xf, (sX).view.loc (thr d L) ↦{fullShare} xf)
    ∗ (∃ yf, (sY).view.loc (thr d L) ↦{fullShare} yf)
    ∗ (bigSep Finset.univ fun k : Fin k0_t1_loop.trips =>
        (oCh L k).view.loc (thr d L) ↦[(oCh L k).view.set]{fullShare} (if k.val < n then gOut m d else m (oLoc d)))
    ∗ semVal (thr d L, SemLoc.dma cc0_scoped1.sem) 0
    ∗ semVal (thr d L, SemLoc.dma cc0_scoped2.sem) 0
    ∗ ∃ W', ⌜∀ p ∈ W', p ∈ W ∨ p.2 = none⌝ ∗ owes (thr d L) O W')

/-- One trip keeps it. -/
theorem outer_trip (q : PosShare TreeShare) (O : CellTallies nD τ sig (HIx 1)) (W : Waits sig (HIx 1)) (n : Fin k0_t1_loop.trips) (u : Unit) :
    outerInv m d L q O W n.val u
      ⊢ wp frame (wpE (defs₀ (F := F)) 𝒱₀ (thr d L) none) Set.univ
          (k0_t1_body L xV (Memref.isWhole_whole _) pV (Memref.isWhole_whole _) fV (Memref.isWhole_whole _) oV (Memref.isWhole_whole _)
            sF (Memref.isWhole_whole _) sX (Memref.isWhole_whole _) sY (Memref.isWhole_whole _) cc0_scoped0 cc0_scoped1 cc0_scoped2 n u)
          fun r => outerInv m d L q O W (n.val + 1) r := by
  unfold k0_t1_body
  unfold outerInv
  iintro ⟨Hmw, Hx, Hf, ⟨%xf, Hsx⟩, ⟨%yf, Hsy⟩, Ho, Hs1, Hs2, %W', %hW', HO⟩
  sl_exec (disch := exact View.amount_pos _ _ (show 0 < S16384.numel by decide))
  have hsx : (View.write (Elt F) (sX).view xf (outer_trip.sl.dma0 m d L n) Finset.univ : S16384.Idx → F .f32) = xBuf m d L n :=
    View.write_whole_univ (Val := Elt F) cc0_scratch1 xf _
  ihave Hsx' := (Entails.of_eq (congrArg (fun g : S16384.Idx → F .f32 => (((sX).view.loc (thr d L) ↦{fullShare} g) : sProp 𝕄)) hsx)) $$ Hsx
  sl_for (innerInv d L (m (fLoc d)) (xBuf m d L n)) $$ [Hf Hsx' Hsy]
  case region =>
    intro k u
    exact inner_trip d L (m (fLoc d)) (xBuf m d L n) k u
  · unfold innerInv
    isplitl [Hf]; · iexact Hf
    isplitl [Hsx']; · iexact Hsx'
    iexists yf; isplitr
    · ipureintro; intro j hj; exact absurd hj (Nat.not_lt_zero _)
    · iexact Hsy
  iintro %_ HI
  unfold innerInv
  icases HI with ⟨Hf, Hsx, %yf', %hy, Hsy⟩
  ihave Hos := (bigSep_univ_update (M := 𝕄) (I := Fin k0_t1_loop.trips) (Φ := fun k => (oCh L k).view.loc (thr d L) ↦[(oCh L k).view.set]{fullShare} (if k.val < n.val then gOut m d else m (oLoc d)))
    (Ψ := fun k => (oCh L k).view.loc (thr d L) ↦[(oCh L k).view.set]{fullShare} (if k.val < n.val + 1 then gOut m d else m (oLoc d))) n ?hne) $$ Ho
  case hne =>
    intro j hj
    have : j.val ≠ n.val := fun e => hj (Fin.ext e)
    simp only [show (j.val < n.val + 1) = (j.val < n.val) from propext ⟨fun h => by omega, fun h => by omega⟩]
  icases Hos with ⟨Hc, Hback⟩
  sl_exec (disch := exact View.amount_pos _ _ (show 0 < S16384.numel by decide))
  sl_step
  isplitl [Hmw]; · iexact Hmw
  isplitl [Hx]; · iexact Hx
  isplitl [Hf]; · iexact Hf
  isplitl [Hsx]; · iexists _; iexact Hsx
  isplitl [Hsy]; · iexists _; iexact Hsy
  isplitl [Hback Hc]
  · iapply Hback
    rw [if_pos (Nat.lt_succ_self n.val)]
    iapply (Entails.of_eq (pointsTo_congr (chunk_out m d L n _ yf' fun j => hy j (j 0).isLt)))
    iexact Hc
  isplitl [Hs1]; · iexact Hs1
  isplitl [Hs2]; · iexact Hs2
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

/-! ## The tile's semaphores and scratch -/

abbrev semCell (i : DmaSems sig S_) : GSem nD τ sig := (thr d L, SemLoc.dma i.sem)

omit [FloatOps F] in
/-- The three copies' semaphores are among the tile's own. -/
theorem ownSems0_tile :
    (ownSems0 (thr d L) : sProp 𝕄)
      = iprop(semVal (semCell d L cc0_scoped0) 0 ∗ semVal (semCell d L cc0_scoped1) 0 ∗ semVal (semCell d L cc0_scoped2) 0
          ∗ bigSep ((((ownCells (thr d L)).erase (semCell d L cc0_scoped0)).erase (semCell d L cc0_scoped1)).erase (semCell d L cc0_scoped2))
              fun g => semVal g 0) := by
  have ne {a b : DmaSems sig S_} (h : (SemLoc.dma a.sem : SemLoc sig) ≠ SemLoc.dma b.sem) : semCell d L a ≠ semCell d L b :=
    fun e => h (Prod.mk.inj e).2
  unfold SparseCore.Cfg.ownSems0
  have m0 : semCell d L cc0_scoped0 ∈ ownCells (thr d L) := mem_ownCells.mpr ⟨rfl, by
    show (SemLoc.dma cc0_scoped0.sem : SemLoc sig).isScoped .scVector = true; decide⟩
  have m1 : semCell d L cc0_scoped1 ∈ ownCells (thr d L) := mem_ownCells.mpr ⟨rfl, by
    show (SemLoc.dma cc0_scoped1.sem : SemLoc sig).isScoped .scVector = true; decide⟩
  have m2 : semCell d L cc0_scoped2 ∈ ownCells (thr d L) := mem_ownCells.mpr ⟨rfl, by
    show (SemLoc.dma cc0_scoped2.sem : SemLoc sig).isScoped .scVector = true; decide⟩
  rw [SparseCore.bigSep_erase' m0,
    SparseCore.bigSep_erase' (Finset.mem_erase.mpr ⟨ne (by decide), m1⟩),
    SparseCore.bigSep_erase' (Finset.mem_erase.mpr ⟨ne (by decide), Finset.mem_erase.mpr ⟨ne (by decide), m2⟩⟩)]

abbrev scrRef (r : Ref sig .scVector) : DevRef τ sig := (Proc.scVector (cV L) (jV L)).devRef r

omit [FloatOps F] in
/-- The three scratch arrays are among the tile's own. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (scrRef L cc0_scratch0)).erase (scrRef L cc0_scratch1)).erase (scrRef L cc0_scratch2))
              fun b => iprop(∃ f, ((d, b) : Loc nD τ sig) ↦{fullShare} f)) := by
  have ne {a b : Ref sig .scVector} (h : a ≠ b) : scrRef L a ≠ scrRef L b := fun e => h (Proc.devRef_injective _ e)
  have m0 : scrRef L cc0_scratch0 ∈ ownRefs (τ := τ) (.scVector (cV L) (jV L)) := SparseCore.Cfg.mem_ownRefs_of_owner (p := Proc.scVector (cV L) (jV L)) rfl
  have m1 : scrRef L cc0_scratch1 ∈ ownRefs (τ := τ) (.scVector (cV L) (jV L)) := SparseCore.Cfg.mem_ownRefs_of_owner (p := Proc.scVector (cV L) (jV L)) rfl
  have m2 : scrRef L cc0_scratch2 ∈ ownRefs (τ := τ) (.scVector (cV L) (jV L)) := SparseCore.Cfg.mem_ownRefs_of_owner (p := Proc.scVector (cV L) (jV L)) rfl
  unfold SparseCore.Cfg.ownBufs
  refine (SparseCore.bigSep_erase' m0).trans ?_
  rw [SparseCore.bigSep_erase' (Finset.mem_erase.mpr ⟨ne (by decide), m1⟩),
    SparseCore.bigSep_erase' (Finset.mem_erase.mpr ⟨ne (by decide), Finset.mem_erase.mpr ⟨ne (by decide), m2⟩⟩)]

/-! ## The task -/

/-- The task of tile `L`, from read shares of the samples and the table and its chunks of the result: the chunks come
    back at the lane function. -/
theorem tile_body (hF : (K (F := F)).Facts) (q : PosShare TreeShare) (O : CellTallies nD τ sig (HIx 1)) (W : Waits sig (HIx 1)) (hO : ∀ g, O g none = 0) :
    (iprop(levAts (K (F := F)).L (K (F := F)).lev ∗ emp
        ∗ ((xLoc d ↦{q} m (xLoc d)) ∗ (fLoc d ↦{q} m (fLoc d))
          ∗ bigSep Finset.univ fun k : Fin k0_t1_loop.trips => oLoc d ↦[chSet L k]{fullShare} m (oLoc d))
        ∗ scopedBufs (thr d L) ∗ scopedSems0 (thr d L) ∗ owes (thr d L) O W) : sProp 𝕄)
      ⊢ wp frame (wpE (defs₀ (F := F)) 𝒱₀ (thr d L) none) Set.univ
          (cc0_run L xV (Memref.isWhole_whole _) pV (Memref.isWhole_whole _) fV (Memref.isWhole_whole _) oV (Memref.isWhole_whole _)
            sF (Memref.isWhole_whole _) sX (Memref.isWhole_whole _) sY (Memref.isWhole_whole _) cc0_scoped0 cc0_scoped1 cc0_scoped2)
          fun _ => iprop(((xLoc d ↦{q} m (xLoc d)) ∗ (fLoc d ↦{q} m (fLoc d))
            ∗ bigSep Finset.univ fun k : Fin k0_t1_loop.trips => oLoc d ↦[chSet L k]{fullShare} gOut m d)
            ∗ scopedBufs (thr d L) ∗ scopedSems0 (thr d L)
            ∗ ∃ W', ⌜∀ p ∈ W', p ∈ W ∨ p.2 = none⌝ ∗ owes (thr d L) O W') := by
  rw [cc0_run_eq_skeleton]; unfold cc0_run_skel
  rw [(K (F := F)).scopedBufs_V hF d (cV L) (jV L), SparseCore.Cfg.scopedSems0_V (Val := Elt F) d (cV L) (jV L), ownSems0_tile, ownBufs_tile]
  iintro ⟨#Hlv, -, ⟨Hx, Hf, Ho⟩, ⟨⟨%f0, Hs0⟩, ⟨%f1, Hs1⟩, ⟨%f2, Hs2⟩, Hbufs⟩, ⟨Hc0, Hc1, Hc2, Hsems⟩, HO⟩
  ihave Hmw := ((K (F := F)).mayWaits_none (thr := thr d L) hO) $$ Hlv
  have hx : (xLoc d ↦{q} m (xLoc d) : sProp 𝕄) ⊢ (xV).view.loc (thr d L) ↦{q} m (xLoc d) := Entails.of_eq rfl
  have hf : (fLoc d ↦{q} m (fLoc d) : sProp 𝕄) ⊢ (fV).view.loc (thr d L) ↦{q} m (fLoc d) := Entails.of_eq rfl
  have h0 : ((thr d L).loc cc0_scratch0 ↦{fullShare} f0 : sProp 𝕄) ⊢ (sF).view.loc (thr d L) ↦{fullShare} f0 := Entails.of_eq rfl
  ihave Hx' := hx $$ Hx
  ihave Hf' := hf $$ Hf
  ihave Hs0' := h0 $$ Hs0
  sl_exec
  have htab : (View.write (Elt F) (sF).view f0 (tile_body.sl.dma0 m d) Finset.univ : S8192.Idx → F .f32) = m (fLoc d) :=
    View.write_whole_univ (Val := Elt F) cc0_scratch0 f0 _
  ihave Ht := (Entails.of_eq (congrArg (fun g : S8192.Idx → F .f32 => (((sF).view.loc (thr d L) ↦{fullShare} g) : sProp 𝕄)) htab)) $$ Hs0'
  sl_for (outerInv m d L q O (insert (SemLoc.dma cc0_scoped0.sem, (default : HIx 1)) W)) $$ [Hmw Hx' Ht Hs1 Hs2 Ho Hc1 Hc2 HO]
  case region =>
    intro k u
    exact outer_trip m d L q O _ k u
  · unfold outerInv
    isplitr; · iexact Hmw
    isplitl [Hx']; · iexact Hx'
    isplitl [Ht]; · iexact Ht
    isplitl [Hs1]; · iexists f1; iexact Hs1
    isplitl [Hs2]; · iexists f2; iexact Hs2
    isplitl [Ho]; · iexact Ho
    isplitl [Hc1]; · iexact Hc1
    isplitl [Hc2]; · iexact Hc2
    iexists _; isplitr
    rotate_left
    · iexact HO
    · ipureintro; exact fun p hp => .inl hp
  iintro %_ HI
  unfold outerInv
  icases HI with ⟨-, Hx, Ht, ⟨%g1, Hs1⟩, ⟨%g2, Hs2⟩, Ho, Hc1, Hc2, %W', %hW', HO⟩
  sl_step
  isplitl [Hx Hf' Ho]
  · isplitl [Hx]; · iexact Hx
    isplitl [Hf']; · iexact Hf'
    have hall : (bigSep Finset.univ fun k : Fin k0_t1_loop.trips =>
        ((oCh L k).view.loc (thr d L) ↦[(oCh L k).view.set]{fullShare} (if k.val < k0_t1_loop.trips then gOut m d else m (oLoc d)) : sProp 𝕄))
        = bigSep Finset.univ fun k : Fin k0_t1_loop.trips => oLoc d ↦[chSet L k]{fullShare} gOut m d :=
      bigSep_congr fun k _ => by rw [if_pos k.isLt]
    iapply (Entails.of_eq hall); iexact Ho
  isplitl [Ht Hs1 Hs2 Hbufs]
  · isplitl [Ht]; · iexists _; iexact Ht
    isplitl [Hs1]; · iexists _; iexact Hs1
    isplitl [Hs2]; · iexists _; iexact Hs2
    iexact Hbufs
  isplitl [Hc0 Hc1 Hc2 Hsems]
  · isplitl [Hc0]; · iexact Hc0
    isplitl [Hc1]; · iexact Hc1
    isplitl [Hc2]; · iexact Hc2
    iexact Hsems
  iexists W'; isplitr
  · ipureintro; intro p hp
    rcases hW' p hp with hp | hp
    · rcases Finset.mem_insert.mp hp with hp | hp
      · exact .inr (hp ▸ rfl)
      · exact .inl hp
    · exact .inr hp
  · iexact HO

end Cert.Proof.Krn

end
-- ==== Proof.Deal.lean ====
/-
  The arrays dealt to the tiles: the result cut into the tiles' chunks, the samples and the table into read shares, one
  per tile, and a remainder of each that stays behind.
-/
module

public import proofs.«01_k».proof.Proof.Tile

@[expose] public section

noncomputable section

namespace Cert.Proof.Krn

open Cert.Kernel Cert.Kernel.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

variable (m : (ℓ : Loc nD τ sig) → Buf (Elt F) ℓ)

/-- A tile and a chunk of it. -/
abbrev ChIx : Type := Fin (grid0.bound 0) × Fin (grid0.bound 1) × Fin k0_t1_loop.trips
abbrev chunkOf (t : ChIx) : Finset S8388608.Idx := chSet (coordsV t.1 t.2.1) t.2.2
/-- Where a chunk starts. -/
def chOff (t : ChIx) : ℕ := 524288 * t.2.1.val + 262144 * t.1.val + 16384 * t.2.2.val

/-- A chunk is the elements from its start on, 16384 of them. -/
theorem mem_chunk (t : ChIx) (i : S8388608.Idx) : i ∈ chunkOf t ↔ chOff t ≤ (i 0).val ∧ (i 0).val < chOff t + 16384 := by
  have hset : chunkOf t = (chR (coordsV t.1 t.2.1) t.2.2).set := by
    show ((View.whole (main_v0_scv : Ref sig .scVector)).slice (chR (coordsV t.1 t.2.1) t.2.2)).set = _
    rw [View.set_slice]; exact Finset.map_refl
  rw [hset, Rect.mem_set_unit, k0_off1_eq]
  exact ⟨fun h => h 0, fun h a => by rw [Subsingleton.elim (α := Fin 1) a 0]; exact h⟩

theorem ch_bounds (t : ChIx) : t.1.val < 2 ∧ t.2.1.val < 16 ∧ t.2.2.val < 16 := ⟨t.1.isLt, t.2.1.isLt, t.2.2.isLt⟩

/-- Different chunks have no element in common. -/
theorem chunks_disjoint : ∀ t ∈ (Finset.univ : Finset ChIx), ∀ t' ∈ (Finset.univ : Finset ChIx), t ≠ t' → Disjoint (chunkOf t) (chunkOf t') := by
  intro t _ t' _ hne
  refine Finset.disjoint_left.mpr fun i hi hi' => hne ?_
  have h := (mem_chunk t i).mp hi
  have h' := (mem_chunk t' i).mp hi'
  have b := ch_bounds t
  have b' := ch_bounds t'
  unfold chOff at h h'
  exact Prod.ext (Fin.ext (by omega)) (Prod.ext (Fin.ext (by omega)) (Fin.ext (by omega)))

/-- The chunks cover the result. -/
theorem chunks_cover : (Finset.univ : Finset ChIx).biUnion chunkOf = Finset.univ := by
  refine Finset.eq_univ_iff_forall.mpr fun i => Finset.mem_biUnion.mpr ?_
  have hi : (i 0).val < 8388608 := (i 0).isLt
  refine ⟨(⟨(i 0).val / 262144 % 2, show _ < 2 by omega⟩, ⟨(i 0).val / 524288, show _ < 16 by omega⟩, ⟨(i 0).val / 16384 % 16, show _ < 16 by omega⟩),
    Finset.mem_univ _, (mem_chunk _ i).mpr ?_⟩
  unfold chOff
  dsimp only
  omega

omit [FloatOps F] in
/-- The result is its chunks. -/
theorem out_chunks (d : Dev nD) (f : Buf (Elt F) (oLoc d)) :
    (oLoc d ↦{fullShare} f : sProp 𝕄)
      = bigSep Finset.univ fun c : Fin (grid0.bound 0) => bigSep Finset.univ fun s : Fin (grid0.bound 1) =>
          bigSep Finset.univ fun k : Fin k0_t1_loop.trips => oLoc d ↦[chSet (coordsV c s) k]{fullShare} f := by
  have h : (oLoc d ↦{fullShare} f : sProp 𝕄) = bigSep Finset.univ fun t : ChIx => oLoc d ↦[chunkOf t]{fullShare} f := by
    rw [← pointsTo_biUnion Finset.univ (ℓ := oLoc d) chunkOf chunks_disjoint, chunks_cover]
  rw [h, bigSep_univ_prod]
  exact bigSep_congr fun c _ => bigSep_univ_prod _

omit [FloatOps F] in
/-- One thing per tile number is one thing per tile. -/
theorem bigSep_tiles (Φ : Fin (2 * 16) → sProp 𝕄) :
    bigSep Finset.univ Φ = bigSep Finset.univ fun c : Fin (grid0.bound 0) => bigSep Finset.univ fun s : Fin (grid0.bound 1) => Φ (tileNo c s) := by
  rw [bigSep_univ_equiv finProdFinEquiv Φ, bigSep_univ_prod]; rfl

/-- What stays behind of an array whose read shares are dealt. -/
abbrev restShare : PosShare TreeShare := Transfers.shareDrop fullShare (2 * 16)

/-- The samples, the table and the result, whole, are what the SparseCores hold and the remainders. -/
theorem deal (d : Dev nD) (f : Buf (Elt F) (oLoc d)) :
    (iprop((xLoc d ↦{fullShare} m (xLoc d)) ∗ (fLoc d ↦{fullShare} m (fLoc d)) ∗ (oLoc d ↦{fullShare} f)) : sProp 𝕄)
      ⊣⊢ iprop((xLoc d ↦{restShare} m (xLoc d)) ∗ (fLoc d ↦{restShare} m (fLoc d))
          ∗ bigSep Finset.univ fun c : Fin (grid0.bound 0) => corePts m d c f) := by
  have hc : (bigSep Finset.univ fun c : Fin (grid0.bound 0) => corePts m d c f : sProp 𝕄)
      = iprop((bigSep Finset.univ fun n : Fin (2 * 16) => xLoc d ↦{shr n} m (xLoc d))
        ∗ (bigSep Finset.univ fun n : Fin (2 * 16) => fLoc d ↦{shr n} m (fLoc d)) ∗ (oLoc d ↦{fullShare} f)) := by
    rw [bigSep_tiles, bigSep_tiles, out_chunks]
    unfold corePts tilePts
    simp only [bigSep_sep']
  rw [hc]
  constructor
  · iintro ⟨Hx, Hf, Ho⟩
    ihave Hx' := (Transfers.pointsTo_toks_split (ℓ := xLoc d) (S := Finset.univ) (f := m (xLoc d)) fullShare (2 * 16)) $$ Hx
    ihave Hf' := (Transfers.pointsTo_toks_split (ℓ := fLoc d) (S := Finset.univ) (f := m (fLoc d)) fullShare (2 * 16)) $$ Hf
    icases Hx' with ⟨Hx0, Hx⟩
    icases Hf' with ⟨Hf0, Hf⟩
    isplitl [Hx0]; · iexact Hx0
    isplitl [Hf0]; · iexact Hf0
    isplitl [Hx]; · iexact Hx
    isplitl [Hf]; · iexact Hf
    iexact Ho
  · iintro ⟨Hx0, Hf0, Hx, Hf, Ho⟩
    isplitl [Hx0 Hx]
    · iapply (Transfers.pointsTo_toks_join (ℓ := xLoc d) (S := Finset.univ) (f := m (xLoc d)) fullShare (2 * 16))
      isplitl [Hx0]; · iexact Hx0
      iexact Hx
    isplitl [Hf0 Hf]
    · iapply (Transfers.pointsTo_toks_join (ℓ := fLoc d) (S := Finset.univ) (f := m (fLoc d)) fullShare (2 * 16))
      isplitl [Hf0]; · iexact Hf0
      iexact Hf
    iexact Ho

end Cert.Proof.Krn

end
-- ==== Proof.Run.lean ====
/-
  The program's run: the tiles' tasks as the launch theorem asks for them, `main` on the TensorCore, and what a run
  leaves: the three arguments as they were, the result at the lane function, every semaphore at zero.
-/
module

public import proofs.«01_k».proof.Proof.Deal

@[expose] public section

noncomputable section

namespace Cert.Proof.Krn

open Cert.Kernel Cert.Kernel.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

variable (m : (ℓ : Loc nD τ sig) → Buf (Elt F) ℓ)
variable (ρ : Dev nD → PrngReg)

/-! ## The launch theorem's obligations -/

theorem defs₀_tile (c : Fin τ.nSC) (s : Fin τ.nSub) :
    defs₀ (F := F) (.scVector c s) 0 ()
      = SparseCore.onTile hcore0 hsub0 (fun c s => cc0_run (coordsV c s)
          xV (Memref.isWhole_whole _) pV (Memref.isWhole_whole _) fV (Memref.isWhole_whole _) oV (Memref.isWhole_whole _)
          sF (Memref.isWhole_whole _) sX (Memref.isWhole_whole _) sY (Memref.isWhole_whole _) cc0_scoped0 cc0_scoped1 cc0_scoped2) ⟨⟩ c s := rfl

omit [FloatOps F] in
/-- Waits recorded at no call are waits recorded at no call or at call `q`. -/
theorem waits_weaken {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its task. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body m d (coordsV ⟨_, hc.1⟩ ⟨_, hc.2⟩) facts (shr (tileNo c i)) O W hO).trans (wp_mono frame _ _ fun _ => waits_weaken)

/-- What a SparseCore is handed is what its tiles are, and back. -/
theorem vecSplit : (K (F := F)).VecSplit' (P m) 0 := by
  intro d c
  show corePts m d c (m (oLoc d)) ⊢ |={Set.univ}=> iprop(corePts m d c (m (oLoc d)) ∗ (corePts m d c (gOut m d) -∗ corePts m d c (gOut m d)))
  iintro H; imodintro
  isplitl [H]; · iexact H
  iintro H; iexact H

/-! ## The launch's ghost state: the handshakes' rounds, nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  have he : (bigSep Finset.univ fun th : Thread nD τ => bigSep Finset.univ fun q : Fin 1 => (P m).x q th : sProp 𝕄) = iprop(emp) :=
    (bigSep_congr fun _ _ => bigSep_emp_const _).trans (bigSep_emp_const _)
  have hd : (bigSep Finset.univ fun _ : Dev nD => iprop(emp) : sProp 𝕄) = iprop(emp) := bigSep_emp_const _
  rw [he, hd]
  unfold u₀
  iintro Hu
  ihave H := (ownU_pair _ _) $$ Hu
  icases H with ⟨HH, -⟩
  imodintro
  isplitl [HH]; · iexact HH
  isplitr <;> iempintro

/-! ## `main` on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ (fLoc d ↦{fullShare} W main_arg2)
      ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What `main` ends with: the arguments as at the launch, the result computed. -/
abbrev FIN (d : Dev nD) : sProp 𝕄 :=
  iprop((pLoc d ↦{fullShare} m (pLoc d)) ∗ (xLoc d ↦{fullShare} m (xLoc d)) ∗ (fLoc d ↦{fullShare} m (fLoc d)) ∗ (oLoc d ↦{fullShare} gOut m d))

/-- `main` on device `d`: the one call, the arrays dealt before it and joined after. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Hf, Ho⟩, Hts, -⟩, -⟩
  ihave Hdeal := (deal m d (m (oLoc d))).1 $$ [Hx Hf Ho]
  · isplitl [Hx]; · iexact Hx
    isplitl [Hf]; · iexact Hf
    iexact Ho
  icases Hdeal with ⟨Hx, Hf, Hcores⟩
  iapply ((K (F := F)).wp_run (D (F := F)) 𝒱 (EH := EH) (P := P m) κ d 0) $$ [Hst Hx Hp Hf Hcores Hb Hts]
  isplitr; · iexact Hctx
  isplitl [Hst]; · iexact Hst
  isplitl [Hcores]; · iexact Hcores
  iintro ⟨Hst, Hdn⟩
  imodintro
  isplitl [Hst]; · iexact Hst
  isplitr [Hb Hts]
  · isplitl [Hp]; · iexact Hp
    iapply (deal m d (gOut m d)).2
    isplitl [Hx]; · iexact Hx
    isplitl [Hf]; · iexact Hf
    iexact Hdn
  isplitl [Hb] <;> iassumption

/-- What the final memory holds on device `d`. -/
def Final (d : Dev nD) (mem : (ℓ : Loc nD τ sig) → Buf (Elt F) ℓ) : Prop :=
  mem (xLoc d) = m (xLoc d) ∧ mem (pLoc d) = m (pLoc d) ∧ mem (fLoc d) = m (fLoc d) ∧ mem (oLoc d) = gOut m d

omit [FloatOps F] in
/-- An array held whole at `f` reads `f` in the memory. -/
theorem read_held (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜Final m d s'.mem.mem⌝ : sProp 𝕄) := by
  iintro ⟨⟨Hp, Hx, Hf, Ho⟩, HSI⟩
  ihave H := (read_held s' (pLoc d) (m (pLoc d))) $$ [HSI Hp]
  · isplitl [HSI] <;> iassumption
  icases H with ⟨%hp, HSI⟩
  ihave H := (read_held s' (xLoc d) (m (xLoc d))) $$ [HSI Hx]
  · isplitl [HSI] <;> iassumption
  icases H with ⟨%hx, HSI⟩
  ihave H := (read_held s' (fLoc d) (m (fLoc d))) $$ [HSI Hf]
  · isplitl [HSI] <;> iassumption
  icases H with ⟨%hf, HSI⟩
  ihave H := (read_held s' (oLoc d) (gOut m d)) $$ [HSI Ho]
  · isplitl [HSI] <;> iassumption
  icases H with ⟨%ho, -⟩
  ipureintro; exact ⟨hx, hp, hf, ho⟩

/-! ## The run -/

/-- What a run leaves. -/
def Post : PUnit × MemSt nD τ sig (Elt F) → Prop := fun r => (∀ d : Dev nD, Final m d r.2.mem) ∧ r.2.sem = fun _ => 0

/-- Every run of the kernel program ends so. -/
theorem run_main [∀ e, Nonempty (Elt F e)] :
    θ_run (Cert.Kernel.defs (F := F)) (Cert.Kernel.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Final m d s'.mem.mem) (hfin m) (Post m)
    (fun _ h hz => ⟨h, hz⟩)

end Cert.Proof.Krn

end
-- ==== Proof.IdealRun.lean ====
/-
  The run of the program read at the ideal instance: its text is the kernel program's, so its run is that program's run,
  with floats extended reals.
-/
module

public import proofs.«01_k».proof.Proof.Run
public import proofs.«01_k».proof.Proof.Gen.KernelIdeal

@[expose] public section

noncomputable section

namespace Cert.Proof.Krn

open Idealize.ShloMosaic Idealize.SL.Sem

/-- The two programs' functions are the same, -/
theorem ideal_defs : Cert.KernelIdeal.defs (F := Ideal) = Cert.Kernel.defs (F := Ideal) := rfl

/-- and their threads. -/
theorem ideal_threads : Cert.KernelIdeal.threads (F := Ideal) = Cert.Kernel.threads (F := Ideal) := rfl

/-- Every run at the ideal instance ends with the arguments as they were, the result at the lane function, the
    semaphores at zero. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (Post (F := Ideal) m) :=
  run_main (F := Ideal) m g

/-- The kernel program's frame. -/
theorem frame_kernel : Cert.quiescent_Kernel := fun m g _ =>
  (θ_run Cert.Kernel.defs _ _).mono (fun _ h => ⟨fun c => ⟨(h.1 c).1, (h.1 c).2.1, (h.1 c).2.2.1⟩, h.2⟩) (run_main (F := Bits) m g)

/-- The frame of its reading at the ideal instance, -/
theorem frame_ideal : Cert.quiescent_KernelIdeal := fun m g _ =>
  (θ_run Cert.KernelIdeal.defs _ _).mono (fun _ h => ⟨fun c => ⟨(h.1 c).1, (h.1 c).2.1, (h.1 c).2.2.1⟩, h.2⟩) (run_ideal m g)

/-- and under the precondition. -/
theorem frame_ideal_drawn [Cert.Pre_drawn.Facts] : Cert.quiescent_KernelIdeal_pre_drawn := fun m g _ =>
  (θ_run Cert.KernelIdeal.defs _ _).mono (fun _ h => ⟨fun c => ⟨(h.1 c).1, (h.1 c).2.1, (h.1 c).2.2.1⟩, h.2⟩) (run_ideal m g)

end Cert.Proof.Krn

end
-- ==== Proof.RefTerm.lean ====
/-
  What the reference computes, as a function of its three arguments: the insertion index of each sample, the four
  lookups, and the interpolation; and each of them read at an element.
-/
module

public import proofs.«01_k».proof.Proof.Gen.ReferenceIdeal.Run
public import Idealize.ShloMosaic.Lib.StableHlo.Predicate
public import Idealize.ShloMosaic.Lib.ReduceAll

@[expose] public section

noncomputable section

namespace Cert.Proof.Ref

open Cert.ReferenceIdeal Cert.ReferenceIdeal.Gen Idealize.ShloMosaic
open Idealize.ShloMosaic.StableHlo.Predicate

variable {F : FTy → Type} [FloatOps F]

/-- A scalar, at every sample. -/
abbrev spread {α : Type} (v : S_.Idx → α) : S8388608.Idx → α := broadcastInDim S8388608 ![] bcast_S_S8388608 v

/-- The number of grid points below each sample, kept in `[1, 8191]`. -/
def insertIx (x : S8388608.Idx → F .f32) (xp : S8192.Idx → F .f32) : S8388608.Idx → BitVec 32 :=
  minsi (spread (id (constantI S_ 32 8191#32))) (maxsi (spread (id (constantI S_ 32 1#32)))
    (Host.reduce IntOp.addi
      (extui 32 (cmpf .olt
        (broadcastInDim S8388608x8192 ![0, 1] bcast_S1x8192_S8388608x8192_0_1 (broadcastInDim S1x8192 ![1] bcast_S8192_S1x8192_1 xp))
        (broadcastInDim S8388608x8192 ![0, 1] bcast_S8388608x1_S8388608x8192_0_1 (broadcastInDim S8388608x1 ![0] bcast_S8388608_S8388608x1_0 x))) natLt_1_32)
      (constantI S_ 32 0#32) reducesTo_S8388608x8192_S8388608_d1 h_S_))

/-- The index below it. -/
def belowIx (i : S8388608.Idx → BitVec 32) : S8388608.Idx → BitVec 32 := subi i (spread (constantI S_ 32 1#32))

/-- The positions a lookup reads: a negative index counts from the end. -/
def wrapIx (i : S8388608.Idx → BitVec 32) : S8388608x1.Idx → BitVec 32 :=
  broadcastInDim S8388608x1 ![0] bcast_S8388608_S8388608x1_0
    (select (cmpi .slt i (spread (constantI S_ 32 0#32))) (addi i (spread (constantI S_ 32 8192#32))) i)

/-- A lookup: the table at the positions, the fill value where a position is outside it. -/
def takeAt (tab : S8192.Idx → F .f32) (i : S8388608.Idx → BitVec 32) : S8388608.Idx → F .f32 :=
  select
    (Host.reduce IntOp.andi
      (andi (cmpi .sge (wrapIx i) (broadcastInDim S8388608x1 ![] bcast_S_S8388608x1 (constantI S_ 32 0#32)))
        (cmpi .sle (wrapIx i) (broadcastInDim S8388608x1 ![0, 1] bcast_S1x1_S8388608x1_0_1 (broadcastInDim S1x1 ![1] bcast_S1_S1x1_1 (constantI S1 32 8191#32)))))
      (constantI S_ 1 1#1) reducesTo_S8388608x1_S8388608_d1 h_S_)
    (Host.gather gather_S8192_S8388608x1_S8388608_n_0_n_n_0_1_1 tab (wrapIx i))
    (spread (constant S_ .f32 0x7FC00000#32))

/-- The table's first entry and its last, at every sample. -/
def firstOf (tab : S8192.Idx → F .f32) : S8388608.Idx → F .f32 :=
  spread (shapeCast S_ (extractStridedSlice S1 ![0] tab slices_S8192_S1_0) shapeCasts_S1_S_)
def lastOf (tab : S8192.Idx → F .f32) : S8388608.Idx → F .f32 :=
  spread (shapeCast S_ (extractStridedSlice S1 ![8191] tab slices_S8192_S1_8191) shapeCasts_S1_S_)

/-- The line through the two entries around a sample, at the sample. -/
def line (x : S8388608.Idx → F .f32) (x0 x1 f0 f1 : S8388608.Idx → F .f32) : S8388608.Idx → F .f32 :=
  addf f0 (mulf (Host.divf (subf f1 f0) (subf x1 x0)) (subf x x0))

/-- The reference. -/
def refOut (x : S8388608.Idx → F .f32) (xp fp : S8192.Idx → F .f32) : S8388608.Idx → F .f32 :=
  select (cmpf .ogt x (lastOf xp)) (lastOf fp)
    (select (cmpf .olt x (firstOf xp)) (firstOf fp)
      (line x (takeAt xp (belowIx (insertIx x xp))) (takeAt xp (insertIx x xp))
        (takeAt fp (belowIx (insertIx x xp))) (takeAt fp (insertIx x xp))))

/-- It is what the run leaves. -/
theorem res_eq (m : (ℓ : Loc nD τ sig) → Buf (Elt F) ℓ) (c : Dev nD) :
    Value.res_main_v35 m c = refOut (F := F) (m ((c.tc : Thread nD τ).loc main_arg0)) (m ((c.tc : Thread nD τ).loc main_arg1)) (m ((c.tc : Thread nD τ).loc main_arg2)) := rfl

/-! ## Read at an element -/

/-- The number of grid points below sample `p`, kept in `[1, 8191]`. -/
def ixAt (x : S8388608.Idx → F .f32) (xp : S8192.Idx → F .f32) (p : Fin 8388608) : ℕ :=
  min 8191 (max 1 (Finset.univ.filter fun q : Fin 8192 => FloatOps.cmpf .olt (xp (Shape.Idx.ofFin q)) (x (Shape.Idx.ofFin p)) = 1#1).card)

/-- A small count kept in `[1, 8191]` as words is the number kept there. -/
theorem clip_word (w : BitVec 32) (hw : w.toNat ≤ 8192) :
    IntOp.minsi 8191#32 (IntOp.maxsi 1#32 w) = BitVec.ofNat 32 (min 8191 (max 1 w.toNat)) := by
  have hti : w.toInt = w.toNat := toInt_eq_toNat_of_lt (by omega)
  have h1 : (1#32 : BitVec 32).toInt = 1 := by decide
  have h8 : (8191#32 : BitVec 32).toInt = 8191 := by decide
  apply BitVec.eq_of_toNat_eq
  rw [BitVec.toNat_ofNat, Nat.mod_eq_of_lt (by omega)]
  unfold IntOp.minsi IntOp.maxsi
  simp only [BitVec.slt, h8, decide_eq_true_eq]
  split <;> split <;> simp_all <;> omega

theorem ixAt_pos (x : S8388608.Idx → F .f32) (xp : S8192.Idx → F .f32) (p : Fin 8388608) : 1 ≤ ixAt x xp p := by
  unfold ixAt; omega

theorem ixAt_le (x : S8388608.Idx → F .f32) (xp : S8192.Idx → F .f32) (p : Fin 8388608) : ixAt x xp p ≤ 8191 := by
  unfold ixAt; omega

/-- A scalar spread over the samples is that scalar at each. -/
theorem spread_apply {α : Type} (v : S_.Idx → α) (j : S8388608.Idx) : spread v j = v (Shape.Idx.first h_S_) :=
  bcast_scalar bcast_S_S8388608 h_S_ v j

/-- The insertion index at a sample is the clipped count, as a word. -/
theorem insertIx_apply (x : S8388608.Idx → F .f32) (xp : S8192.Idx → F .f32) (p : Fin 8388608) :
    insertIx x xp (Shape.Idx.ofFin p) = BitVec.ofNat 32 (ixAt x xp p) := by
  have hcount := toNat_reduce_count_cols (n := 8388608) (m := 8192) (by omega)
    (cmpf .olt
      (broadcastInDim S8388608x8192 ![0, 1] bcast_S1x8192_S8388608x8192_0_1 (broadcastInDim S1x8192 ![1] bcast_S8192_S1x8192_1 xp))
      (broadcastInDim S8388608x8192 ![0, 1] bcast_S8388608x1_S8388608x8192_0_1 (broadcastInDim S8388608x1 ![0] bcast_S8388608_S8388608x1_0 x)))
    natLt_1_32 reducesTo_S8388608x8192_S8388608_d1 h_S_ (Shape.Idx.ofFin p)
  have hset : (Finset.univ.filter fun q : Fin 8192 => cmpf .olt
      (broadcastInDim S8388608x8192 ![0, 1] bcast_S1x8192_S8388608x8192_0_1 (broadcastInDim S1x8192 ![1] bcast_S8192_S1x8192_1 xp))
      (broadcastInDim S8388608x8192 ![0, 1] bcast_S8388608x1_S8388608x8192_0_1 (broadcastInDim S8388608x1 ![0] bcast_S8388608_S8388608x1_0 x))
        (ij ((Shape.Idx.ofFin p : S8388608.Idx) 0) q) = 1#1)
      = Finset.univ.filter fun q : Fin 8192 => FloatOps.cmpf .olt (xp (Shape.Idx.ofFin q)) (x (Shape.Idx.ofFin p)) = 1#1 := by
    apply Finset.filter_congr
    intro q _
    have e1 := bcast_cols bcast_S8192_S1x8192_1 bcast_S1x8192_S8388608x8192_0_1 xp p q
    have e2 := bcast_rows bcast_S8388608_S8388608x1_0 bcast_S8388608x1_S8388608x8192_0_1 x p q
    exact iff_of_eq (congrArg (· = 1#1) (congrArg₂ (FloatOps.cmpf .olt) e1 e2))
  rw [hset] at hcount
  have hle : (Finset.univ.filter fun q : Fin 8192 => FloatOps.cmpf .olt (xp (Shape.Idx.ofFin q)) (x (Shape.Idx.ofFin p)) = 1#1).card ≤ 8192 :=
    (Finset.card_filter_le _ _).trans (by simp)
  unfold insertIx ixAt
  rw [← hcount] at hle ⊢
  exact clip_word _ hle

/-- The index below it, as a word. -/
theorem belowIx_apply (i : S8388608.Idx → BitVec 32) (j : S8388608.Idx) (n : ℕ) (h : i j = BitVec.ofNat 32 n) (h1 : 1 ≤ n) (h2 : n ≤ 8191) :
    belowIx i j = BitVec.ofNat 32 (n - 1) := by
  show i j - spread (constantI S_ 32 1#32) j = _
  rw [spread_apply, h]
  exact sub_one_ofNat n h1 (by omega)

/-- Positions inside the table wrap to themselves. -/
theorem wrapIx_apply (i : S8388608.Idx → BitVec 32) (p : Fin 8388608) (h : (i (Shape.Idx.ofFin p)).toNat < 8192) :
    wrapIx i (ixP p) = i (Shape.Idx.ofFin p) := by
  unfold wrapIx
  rw [bcast_col1]
  have h0 : ¬ IntOp.cmpi .slt (i (Shape.Idx.ofFin p)) (spread (constantI S_ 32 0#32) (Shape.Idx.ofFin p)) = 1#1 := by
    rw [spread_apply]
    show ¬ IntOp.cmpi .slt (i (Shape.Idx.ofFin p)) 0#32 = 1#1
    rw [slt_iff_toNat (by omega) (by decide)]
    simp
  exact if_neg h0

/-- A select whose condition holds at an index is its first operand there. -/
theorem sel_pos {α : Type} {s : Shape} (c : s.Idx → BitVec 1) (a b : s.Idx → α) (j : s.Idx) (h : c j = 1#1) : select c a b j = a j := if_pos h

/-- A lookup at positions all inside the table is the table there. -/
theorem takeAt_apply (tab : S8192.Idx → F .f32) (i : S8388608.Idx → BitVec 32) (hi : ∀ p : Fin 8388608, (i (Shape.Idx.ofFin p)).toNat < 8192)
    (p : Fin 8388608) : takeAt tab i (Shape.Idx.ofFin p) = tab (Shape.Idx.ofFin ⟨(i (Shape.Idx.ofFin p)).toNat, hi p⟩) := by
  have hcol : ∀ j : S8388608x1.Idx, (wrapIx i j).toNat < 8192 := by
    intro j
    obtain ⟨q, rfl⟩ : ∃ q : Fin 8388608, j = ixP q := by
      refine ⟨j 0, ?_⟩
      funext b
      match b with
      | ⟨0, _⟩ => rfl
      | ⟨1, _⟩ => exact Subsingleton.elim (α := Fin 1) _ _
    rw [wrapIx_apply i q (hi q)]; exact hi q
  have hmask : Host.reduce IntOp.andi
      (andi (cmpi .sge (wrapIx i) (broadcastInDim S8388608x1 ![] bcast_S_S8388608x1 (constantI S_ 32 0#32)))
        (cmpi .sle (wrapIx i) (broadcastInDim S8388608x1 ![0, 1] bcast_S1x1_S8388608x1_0_1 (broadcastInDim S1x1 ![1] bcast_S1_S1x1_1 (constantI S1 32 8191#32)))))
      (constantI S_ 1 1#1) reducesTo_S8388608x1_S8388608_d1 h_S_ (Shape.Idx.ofFin p) = 1#1 := by
    apply Host.reduce_andi_one
    · rfl
    · intro j
      have h1 : IntOp.cmpi .sge (wrapIx i j) 0#32 = 1#1 := (sge_iff_toNat (by have := hcol j; omega) (by decide)).2 (by simp)
      have h2 : IntOp.cmpi .sle (wrapIx i j) 8191#32 = 1#1 :=
        (sle_iff_toNat (by have := hcol j; omega) (by decide)).2 (by have := hcol j; simp; omega)
      show IntOp.andi (IntOp.cmpi .sge (wrapIx i j) 0#32) (IntOp.cmpi .sle (wrapIx i j) 8191#32) = 1#1
      rw [h1, h2]; rfl
  have hg := gather_take gather_S8192_S8388608x1_S8388608_n_0_n_n_0_1_1 rfl rfl rfl rfl tab (wrapIx i) p (by omega)
  have hn : (wrapIx i (ixP p)).toInt.toNat = (i (Shape.Idx.ofFin p)).toNat := by
    rw [wrapIx_apply i p (hi p), toInt_eq_toNat_of_lt (by have := hi p; omega)]; rfl
  unfold takeAt
  refine (sel_pos _ _ _ _ hmask).trans (hg.trans (congrArg tab (congrArg Shape.Idx.ofFin (Fin.ext ?_))))
  show min (wrapIx i (ixP p)).toInt.toNat 8191 = (i (Shape.Idx.ofFin p)).toNat
  rw [hn]; have := hi p; omega

/-- The first entry and the last. -/
theorem firstOf_apply (tab : S8192.Idx → F .f32) (j : S8388608.Idx) : firstOf tab j = tab (Shape.Idx.ofFin ⟨0, by omega⟩) := by
  unfold firstOf
  rw [spread_apply]
  unfold shapeCast extractStridedSlice
  congr 1
  funext a
  obtain rfl : a = 0 := Subsingleton.elim (α := Fin 1) _ _
  apply Fin.ext
  simp [Shape.Idx.ofFin]
  exact Nat.lt_one_iff.mp (Fin.isLt (n := 1) _)
theorem lastOf_apply (tab : S8192.Idx → F .f32) (j : S8388608.Idx) : lastOf tab j = tab (Shape.Idx.ofFin ⟨8191, by omega⟩) := by
  unfold lastOf
  rw [spread_apply]
  unfold shapeCast extractStridedSlice
  congr 1
  funext a
  obtain rfl : a = 0 := Subsingleton.elim (α := Fin 1) _ _
  apply Fin.ext
  simp [Shape.Idx.ofFin]
  exact Nat.lt_one_iff.mp (Fin.isLt (n := 1) _)

/-- The table entry `n`. -/
abbrev ent (tab : S8192.Idx → F .f32) (n : ℕ) (h : n < 8192) : F .f32 := tab (Shape.Idx.ofFin ⟨n, h⟩)

/-- One sample of the reference. -/
theorem refOut_apply (x : S8388608.Idx → F .f32) (xp fp : S8192.Idx → F .f32) (p : Fin 8388608) (n : ℕ) (hn : ixAt x xp p = n)
    (h1 : n - 1 < 8192) (h2 : n < 8192) :
    refOut x xp fp (Shape.Idx.ofFin p) =
      if FloatOps.cmpf .ogt (x (Shape.Idx.ofFin p)) (ent xp 8191 (by omega)) = 1#1 then ent fp 8191 (by omega)
      else if FloatOps.cmpf .olt (x (Shape.Idx.ofFin p)) (ent xp 0 (by omega)) = 1#1 then ent fp 0 (by omega)
      else FloatOps.addf (ent fp (n - 1) h1)
        (FloatOps.mulf (FloatOps.hostDivf (FloatOps.subf (ent fp n h2) (ent fp (n - 1) h1)) (FloatOps.subf (ent xp n h2) (ent xp (n - 1) h1)))
          (FloatOps.subf (x (Shape.Idx.ofFin p)) (ent xp (n - 1) h1))) := by
  subst hn
  have hI : ∀ q : Fin 8388608, (insertIx x xp (Shape.Idx.ofFin q)).toNat = ixAt x xp q := fun q => by
    rw [insertIx_apply, BitVec.toNat_ofNat, Nat.mod_eq_of_lt (by have := ixAt_le x xp q; omega)]
  have hB : ∀ q : Fin 8388608, (belowIx (insertIx x xp) (Shape.Idx.ofFin q)).toNat = ixAt x xp q - 1 := fun q => by
    rw [belowIx_apply _ _ _ (insertIx_apply x xp q) (ixAt_pos x xp q) (ixAt_le x xp q), BitVec.toNat_ofNat,
      Nat.mod_eq_of_lt (by have := ixAt_le x xp q; omega)]
  have tI : ∀ tab : S8192.Idx → F .f32, takeAt tab (insertIx x xp) (Shape.Idx.ofFin p) = ent tab (ixAt x xp p) h2 := fun tab => by
    rw [takeAt_apply tab _ (fun q => by rw [hI]; have := ixAt_le x xp q; omega)]
    simp only [hI]
  have tB : ∀ tab : S8192.Idx → F .f32, takeAt tab (belowIx (insertIx x xp)) (Shape.Idx.ofFin p) = ent tab (ixAt x xp p - 1) h1 := fun tab => by
    rw [takeAt_apply tab _ (fun q => by rw [hB]; have := ixAt_le x xp q; omega)]
    simp only [hB]
  have lF : ∀ tab : S8192.Idx → F .f32, firstOf tab (Shape.Idx.ofFin p) = ent tab 0 (by omega) := fun tab => firstOf_apply tab _
  have lL : ∀ tab : S8192.Idx → F .f32, lastOf tab (Shape.Idx.ofFin p) = ent tab 8191 (by omega) := fun tab => lastOf_apply tab _
  rw [← tI fp, ← tI xp, ← tB fp, ← tB xp, ← lF fp, ← lF xp, ← lL fp, ← lL xp]
  rfl

end Cert.Proof.Ref

end
-- ==== Proof.RefFrame.lean ====
/-
  The reference's frames: its run leaves the arguments as they were, and it has no semaphore.
-/
module

public import proofs.«01_k».proof.Defs
public import proofs.«01_k».proof.Proof.RefTerm
public import Idealize.ShloMosaic.Lib.Quiescent
public import Idealize.ShloMosaic.Adequacy
public import Idealize.ShloMosaic.Init

@[expose] public section

noncomputable section

namespace Cert.Proof.Ref

open Idealize.ShloMosaic Idealize.SL.Sem

/-- Every run of the reference ends with the reference's array and the arguments as they were. -/
theorem run_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v35)
            = refOut (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c => ⟨(h c).1.trans (res_eq m c), (h c).2⟩) (Cert.ReferenceIdeal.Value.run (F := Ideal) m g)

/-- The reference's frame, -/
theorem frame_ref : Cert.quiescent_ReferenceIdeal := fun m g _ =>
  (θ_run Cert.ReferenceIdeal.defs _ _).mono (fun r h => ⟨fun c => (h c).2, Idealize.ShloMosaic.sem_eq_zero_of_no_sems (by decide) r.2⟩) (run_ref m g)

/-- and under the precondition. -/
theorem frame_ref_drawn [Cert.Pre_drawn.Facts] : Cert.quiescent_ReferenceIdeal_pre_drawn := fun m g _ =>
  (θ_run Cert.ReferenceIdeal.defs _ _).mono (fun r h => ⟨fun c => (h c).2, Idealize.ShloMosaic.sem_eq_zero_of_no_sems (by decide) r.2⟩) (run_ref m g)

end Cert.Proof.Ref

end
-- ==== Proof.Pre.lean ====
/-
  The precondition, read back over the extended reals: every sample lies in [0, 1], grid point `k` is `k / 8191`, and
  every table value is a real number.
-/
module

public import proofs.«01_k».proof.Proof.Gen.Pre_drawn
public import Idealize.ShloMosaic.PureOps.Ideal
public import Idealize.ShloMosaic.Lib.StableHlo.Predicate
public import Idealize.ShloMosaic.Lib.ReduceAll
public import Idealize.ShloMosaic.Lib.IdealHost
public import Idealize.ShloMosaic.Lib.Pipeline.Value

@[expose] public section

noncomputable section

namespace Cert.Proof.Pre

open Cert.Pre_drawn Cert.Pre_drawn.Facts Idealize.ShloMosaic

/-! ## The constants and the comparisons -/

/-- The word of 8191 denotes 8191. -/
theorem bits_8191 : Ideal.ofBits .f32 0x45FFF800#32 = ((8191 : ℝ) : EReal) := by
  simp [Ideal.ofBits, Ideal.ieee]; norm_num
  rw [← EReal.coe_mul]; norm_num

/-- The word of +∞ denotes the top. -/
theorem bits_inf : Ideal.ofBits .f32 0x7F800000#32 = ⊤ := by
  simp [Ideal.ofBits, Ideal.ieee]

/-- The word of 0 denotes 0. -/
theorem bits_zero : Ideal.ofBits .f32 0x00000000#32 = 0 := by
  simp [Ideal.ofBits, Ideal.ieee]

/-- A bit made from a proposition is 1 just when it holds. -/
theorem bit_iff (p : Prop) [Decidable p] : BitVec.ofBool (decide p) = 1#1 ↔ p := by
  by_cases h : p <;> simp [h]

/-- Each comparison is the order's. -/
theorem lt_iff (x y : EReal) : Ideal.cmp .olt x y = 1#1 ↔ x < y := bit_iff _
theorem gt_iff (x y : EReal) : Ideal.cmp .ogt x y = 1#1 ↔ y < x := bit_iff _
theorem le_iff (x y : EReal) : Ideal.cmp .ole x y = 1#1 ↔ x ≤ y := bit_iff _
theorem ge_iff (x y : EReal) : Ideal.cmp .oge x y = 1#1 ↔ y ≤ x := bit_iff _
theorem eq_iff (x y : EReal) : Ideal.cmp .oeq x y = 1#1 ↔ x = y := bit_iff _

/-- A quotient by a real number other than zero is the real quotient. -/
theorem div_coe (a b : ℝ) (hb : b ≠ 0) : Ideal.div (a : EReal) (b : EReal) = ((a * b⁻¹ : ℝ) : EReal) := by
  rw [Ideal.div, if_neg (by exact_mod_cast hb), ← EReal.coe_inv, ← EReal.coe_mul]

/-! ## The grid -/

/-- The grid the precondition names has `k / 8191` at position `k`. -/
theorem grid_apply [Facts] (k : Fin 8192) :
    fn_linspace (F := Ideal) (constant S_ .f32 0x00000000#32) (constant S_ .f32 0x3F800000#32) (Shape.Idx.ofFin k)
      = (((k.val : ℝ) / 8191 : ℝ) : EReal) := by
  unfold fn_linspace
  by_cases hk : k.val < 8191
  · refine (concatenate_pair_apply_left (s₁ := S8191) (s₂ := S1) (t := S8192) 0 _ _ concatenates_S8191_S1_S8192_d0 (Shape.Idx.ofFin k) rfl
      (Shape.Idx.ofFin ⟨k.val, hk⟩) (fun b => ?_)).trans ?_
    · obtain rfl : b = 0 := Subsingleton.elim (α := Fin 1) _ _
      rfl
    · have hi : ((BitVec.ofNat 32 k.val).toInt : ℝ) = (k.val : ℝ) := by
        rw [StableHlo.Predicate.toInt_ofNat_small _ (by omega)]; push_cast; rfl
      show Ideal.ofBits .f32 0x00000000#32 * (Ideal.ofBits .f32 0x3F800000#32
            - Ideal.div (((BitVec.ofNat 32 k.val).toInt : ℝ) : EReal) (Ideal.ofBits .f32 0x45FFF800#32))
          + Ideal.ofBits .f32 0x3F800000#32 * Ideal.div (((BitVec.ofNat 32 k.val).toInt : ℝ) : EReal) (Ideal.ofBits .f32 0x45FFF800#32) = _
      rw [bits_zero, Ideal.ofBits_one_f32, bits_8191, hi, zero_mul, zero_add, one_mul, div_coe _ _ (by norm_num), div_eq_mul_inv]
  · have hk' : k.val = 8191 := by omega
    refine (concatenate_pair_apply_right (s₁ := S8191) (s₂ := S1) (t := S8192) 0 _ _ concatenates_S8191_S1_S8192_d0 (Shape.Idx.ofFin k) rfl rfl
      (Shape.Idx.ofFin 0) (fun b hb => ?_) ?_).trans ?_
    · exact absurd (Subsingleton.elim (α := Fin 1) _ _) hb
    · show 0 + 8191 = k.val
      omega
    · show Ideal.ofBits .f32 0x3F800000#32 = _
      rw [Ideal.ofBits_one_f32, hk']
      norm_num

/-! ## The precondition -/

/-- What the precondition says. -/
structure Drawn (x : S8388608.Idx → EReal) (xp fp : S8192.Idx → EReal) : Prop where
  /-- each sample is a real number of [0, 1], -/
  sample : ∀ j, ∃ r : ℝ, x j = (r : EReal) ∧ 0 ≤ r ∧ r ≤ 1
  /-- each grid point is the uniform grid's, -/
  grid : ∀ k : Fin 8192, xp (Shape.Idx.ofFin k) = (((k.val : ℝ) / 8191 : ℝ) : EReal)
  /-- and each table value is a real number. -/
  value : ∀ k, ∃ r : ℝ, fp k = (r : EReal)

/-- An extended real between two real numbers is one. -/
theorem real_of_mem (y : EReal) (h0 : 0 ≤ y) (h1 : y ≤ 1) : ∃ r : ℝ, y = (r : EReal) ∧ 0 ≤ r ∧ r ≤ 1 := by
  induction y with
  | bot => exact absurd h0 (by simp)
  | top => exact absurd h1 (not_le.2 (EReal.coe_lt_top 1))
  | coe r => exact ⟨r, rfl, by exact_mod_cast h0, by exact_mod_cast h1⟩

/-- An extended real whose absolute value is below the top is a real number. -/
theorem real_of_abs (y : EReal) (h : max y (-y) < ⊤) : ∃ r : ℝ, y = (r : EReal) := by
  induction y with
  | bot => exact absurd h (by simp)
  | top => exact absurd h (by simp)
  | coe r => exact ⟨r, rfl⟩

/-- The precondition's function is all ones only on such arguments. -/
theorem drawn_of_fn [Facts] (x : S8388608.Idx → EReal) (xp fp : S8192.Idx → EReal) (h : fn (F := Ideal) x xp fp = fun _ => 1#1) :
    Drawn x xp fp := by
  haveI : Subsingleton S_.Idx := ⟨fun a b => funext fun i => i.elim0⟩
  have h0 := congrFun h (Shape.Idx.first h_S_)
  obtain ⟨h12, h3⟩ := IntOp.andi_eq_one.1 h0
  obtain ⟨h1, h2⟩ := IntOp.andi_eq_one.1 h12
  have a1 := fun j => Host.reduce_andi_all _ _ _ _ _ h1 j
  have a2 := fun j => Host.reduce_andi_all _ _ _ _ _ h2 j
  have a3 := fun j => Host.reduce_andi_all _ _ _ _ _ h3 j
  refine ⟨fun j => ?_, fun k => ?_, fun k => ?_⟩
  · obtain ⟨hl, hr⟩ := IntOp.andi_eq_one.1 (a1 j)
    have hl' : Ideal.ofBits .f32 0x00000000#32 ≤ x j := (ge_iff _ _).1 hl
    have hr' : x j ≤ Ideal.ofBits .f32 0x3F800000#32 := (le_iff _ _).1 hr
    rw [bits_zero] at hl'
    rw [Ideal.ofBits_one_f32] at hr'
    exact real_of_mem _ hl' hr'
  · exact ((eq_iff _ _).1 (a2 (Shape.Idx.ofFin k))).trans (grid_apply k)
  · have hv : max (fp k) (-(fp k)) < Ideal.ofBits .f32 0x7F800000#32 := (lt_iff _ _).1 (a3 k)
    rw [bits_inf] at hv
    exact real_of_abs _ hv

end Cert.Proof.Pre

end
-- ==== Proof.Interp.lean ====
/-
  The mathematics of the equation, over the reals: on the uniform grid `k / 8191` the cell found by counting the grid
  points below a sample and the cell found by truncating `8191 · x` give the same value of the piecewise linear
  interpolant.
-/
module

public import Mathlib.Algebra.Order.Archimedean.Real.Basic
public import Mathlib.Tactic.Ring
public import Mathlib.Algebra.Order.Floor.Ring
public import Mathlib.Algebra.Order.Floor.Semiring
public import Mathlib.Data.Fintype.Card
public import Mathlib.Order.Interval.Finset.Fin
public import Mathlib.Tactic.FieldSimp
public import Mathlib.Tactic.Linarith
public import Mathlib.Tactic.Positivity

@[expose] public section

noncomputable section

namespace Cert.Proof.Interp

/-- The cell's upper grid point, by counting: the number of grid points below, kept at least 1. -/
def upper (t : ℝ) : ℕ := max 1 ⌈t⌉₊

/-- The cell's lower grid point, by truncating: the integer part, kept at most 8190. -/
def lower (t : ℝ) : ℕ := min ⌊t⌋₊ 8190

/-- As many grid points lie below a sample as the ceiling of its position. -/
theorem card_below (x : ℝ) (h1 : x ≤ 1) :
    (Finset.univ.filter fun q : Fin 8192 => ((q.val : ℝ) / 8191) < x).card = ⌈8191 * x⌉₊ := by
  have hm : ⌈8191 * x⌉₊ ≤ 8191 := Nat.ceil_le.2 (by push_cast; linarith)
  have he : (Finset.univ.filter fun q : Fin 8192 => ((q.val : ℝ) / 8191) < x)
      = Finset.univ.filter fun q : Fin 8192 => q < (⟨⌈8191 * x⌉₊, by omega⟩ : Fin 8192) := by
    apply Finset.filter_congr
    intro q _
    rw [Fin.lt_def, Nat.lt_ceil, div_lt_iff₀ (by norm_num), mul_comm]
  rw [he, Finset.filter_gt_eq_Iio, Fin.card_Iio]

/-- The two cells are one, or the sample is the grid point they share. -/
theorem cells (t : ℝ) (h0 : 0 ≤ t) (h1 : t ≤ 8191) :
    upper t = lower t + 1 ∨ (upper t = lower t ∧ t = lower t ∧ 1 ≤ lower t) := by
  have hce : ⌈t⌉₊ ≤ 8191 := Nat.ceil_le.2 (by push_cast; linarith)
  have hle : ⌈t⌉₊ ≤ ⌊t⌋₊ + 1 := Nat.ceil_le_floor_add_one t
  have hfc : ⌊t⌋₊ ≤ ⌈t⌉₊ := Nat.floor_le_ceil t
  unfold upper lower
  by_cases hs : ⌈t⌉₊ = ⌊t⌋₊
  · have ht : t = (⌊t⌋₊ : ℝ) := le_antisymm (by rw [← hs]; exact Nat.le_ceil t) (Nat.floor_le h0)
    by_cases hz : ⌊t⌋₊ = 0
    · left; omega
    · by_cases he : ⌊t⌋₊ = 8191
      · left; omega
      · right
        have hmin : min ⌊t⌋₊ 8190 = ⌊t⌋₊ := by omega
        rw [hmin]
        exact ⟨by omega, ht, by omega⟩
  · left; omega

/-- The line through the two points around a sample, at the sample, is one value by either cell. -/
theorem line_eq (f : ℕ → ℝ) (x : ℝ) (h0 : 0 ≤ x) (h1 : x ≤ 1) :
    f (upper (8191 * x) - 1)
        + (f (upper (8191 * x)) - f (upper (8191 * x) - 1)) * ((upper (8191 * x) : ℝ) / 8191 - ((upper (8191 * x) - 1 : ℕ) : ℝ) / 8191)⁻¹
          * (x - ((upper (8191 * x) - 1 : ℕ) : ℝ) / 8191)
      = f (lower (8191 * x)) + (f (lower (8191 * x) + 1) - f (lower (8191 * x))) * (x * 8191 - (lower (8191 * x) : ℝ)) := by
  rcases cells (8191 * x) (by positivity) (by linarith) with h | ⟨h, ht, hp⟩
  · rw [h, Nat.add_sub_cancel]
    have hg : (((lower (8191 * x) + 1 : ℕ) : ℝ) / 8191 - (lower (8191 * x) : ℝ) / 8191)⁻¹ = 8191 := by
      push_cast
      rw [← sub_div, add_sub_cancel_left, one_div, inv_inv]
    rw [hg]; ring
  · rw [h]
    generalize hj : lower (8191 * x) = j at *
    have hx : x = (j : ℝ) / 8191 := by rw [eq_div_iff (by norm_num)]; linarith
    have hc : ((j - 1 : ℕ) : ℝ) = (j : ℝ) - 1 := by push_cast [Nat.cast_sub hp]; ring
    have hg : ((j : ℝ) / 8191 - ((j - 1 : ℕ) : ℝ) / 8191) = 1 / 8191 := by rw [hc]; ring
    rw [hg, hx, hg]
    field_simp
    ring

/-- A cell's points are on the grid. -/
theorem upper_pos (t : ℝ) : 1 ≤ upper t := le_max_left _ _
theorem upper_le (t : ℝ) (h1 : t ≤ 8191) : upper t ≤ 8191 :=
  max_le (by norm_num) (Nat.ceil_le.2 (by push_cast; linarith))
theorem lower_le (t : ℝ) : lower t ≤ 8190 := min_le_right _ _

end Cert.Proof.Interp

end
-- ==== Proof.Equation.lean ====
/-
  The equation: on the arguments that the precondition admits, one lane of the kernel and one sample of the reference are
  the same extended real.
-/
module

public import proofs.«01_k».proof.Proof.Lane
public import proofs.«01_k».proof.Proof.RefTerm
public import proofs.«01_k».proof.Proof.Pre
public import proofs.«01_k».proof.Proof.Interp

@[expose] public section

noncomputable section

namespace Cert.Proof.Equation

open Idealize.ShloMosaic Idealize.ShloMosaic.StableHlo.Predicate
open Cert.Proof.Pre Cert.Proof.Interp

/-! ## The kernel's cell -/

/-- The position of a real sample. -/
theorem tOf_coe (r : ℝ) : Lane.tOf (F := Ideal) (r : EReal) = ((r * 8191 : ℝ) : EReal) := by
  show (r : EReal) * Ideal.ofBits .f32 0x45FFF800#32 = _
  rw [bits_8191, ← EReal.coe_mul]

/-- A small natural number clamped to 0 … 8190 as a word. -/
theorem clamp_ofNat (n : ℕ) (hn : n < 2 ^ 31) :
    IntOp.minsi (IntOp.maxsi (BitVec.ofNat 32 n) 0#32) 8190#32 = BitVec.ofNat 32 (min n 8190) := by
  have hti : (BitVec.ofNat 32 n).toInt = n := toInt_ofNat_small n hn
  have h0 : (0#32 : BitVec 32).toInt = 0 := by decide
  have h8 : (8190#32 : BitVec 32).toInt = 8190 := by decide
  have hmax : IntOp.maxsi (BitVec.ofNat 32 n) 0#32 = BitVec.ofNat 32 n := by
    unfold IntOp.maxsi
    rcases Nat.eq_zero_or_pos n with rfl | hp
    · simp
    · simp only [BitVec.slt, hti, h0, decide_eq_true_eq]
      split <;> first | rfl | omega
  rw [hmax]
  unfold IntOp.minsi
  simp only [BitVec.slt, hti, h8, decide_eq_true_eq]
  split
  · rw [Nat.min_eq_left (by omega)]
  · rw [Nat.min_eq_right (by omega)]

/-- The cell of a real sample of [0, 1]: the position's integer part, at most 8190. -/
theorem jOf_coe (r : ℝ) (h0 : 0 ≤ r) (h1 : r ≤ 1) : Lane.jOf (F := Ideal) (r : EReal) = BitVec.ofNat 32 (lower (8191 * r)) := by
  have hp : (0 : ℝ) ≤ r * 8191 := by positivity
  have hf : ⌊r * 8191⌋ = ((⌊r * 8191⌋₊ : ℕ) : ℤ) := (Int.natCast_floor_eq_floor hp).symm
  have hle : ⌊r * 8191⌋₊ ≤ 8191 := Nat.floor_le_of_le (by push_cast; linarith)
  have hc : FloatOps.fptosi (F := Ideal) (φ := .f32) 32 (Lane.tOf (F := Ideal) (r : EReal)) = BitVec.ofNat 32 ⌊r * 8191⌋₊ := by
    rw [tOf_coe]
    show Ideal.fptosi 32 ((r * 8191 : ℝ) : EReal) = _
    rw [Ideal.fptosi, Ideal.toIntClamped_coe, if_pos hp, hf]
    have hm : max (-((2 ^ (32 - 1) : ℕ) : ℤ)) (min (((2 ^ (32 - 1) : ℕ) : ℤ) - 1) ((⌊r * 8191⌋₊ : ℕ) : ℤ)) = ((⌊r * 8191⌋₊ : ℕ) : ℤ) := by
      push_cast; omega
    rw [hm]
    exact BitVec.ofInt_natCast 32 _
  unfold Lane.jOf
  rw [hc, clamp_ofNat _ (by omega)]
  unfold lower
  rw [mul_comm]

/-! ## One lane -/

/-- A table of real numbers, as a function on the naturals. -/
def reals (g : Cert.ReferenceIdeal.S8192.Idx → ℝ) (n : ℕ) : ℝ := if h : n < 8192 then g (Shape.Idx.ofFin ⟨n, h⟩) else 0

/-- An entry of a table is the function's value. -/
theorem ent_coe (fp : Cert.ReferenceIdeal.S8192.Idx → EReal) (g : Cert.ReferenceIdeal.S8192.Idx → ℝ) (hg : ∀ k, fp k = (g k : EReal))
    (n : ℕ) (h : n < 8192) : fp (Shape.Idx.ofFin ⟨n, h⟩) = (reals g n : EReal) := by
  rw [hg, reals, dif_pos h]

/-- The kernel's spelling of the same entry. -/
theorem entry_coe (fp : Cert.ReferenceIdeal.S8192.Idx → EReal) (g : Cert.ReferenceIdeal.S8192.Idx → ℝ) (hg : ∀ k, fp k = (g k : EReal))
    (n : ℕ) (h : n < 8192) : Lane.entry (F := Ideal) fp n h = (reals g n : EReal) := by
  rw [← ent_coe fp g hg n h]
  unfold Lane.entry
  congr 1

/-- One lane of the kernel, over the reals. -/
theorem lane_coe (fp : Cert.ReferenceIdeal.S8192.Idx → EReal) (g : Cert.ReferenceIdeal.S8192.Idx → ℝ) (hg : ∀ k, fp k = (g k : EReal))
    (r : ℝ) (h0 : 0 ≤ r) (h1 : r ≤ 1) :
    Lane.lane (F := Ideal) fp (r : EReal)
      = ((reals g (lower (8191 * r)) + (reals g (lower (8191 * r) + 1) - reals g (lower (8191 * r))) * (r * 8191 - (lower (8191 * r) : ℝ)) : ℝ) : EReal) := by
  have hl := lower_le (8191 * r)
  have hj := jOf_coe r h0 h1
  have hn : (Lane.jOf (F := Ideal) (r : EReal)).toNat = lower (8191 * r) := by
    rw [hj, BitVec.toNat_ofNat, Nat.mod_eq_of_lt (by omega)]
  have hs : FloatOps.sitofp (F := Ideal) .f32 (Lane.jOf (F := Ideal) (r : EReal)) = ((lower (8191 * r) : ℝ) : EReal) := by
    show (((Lane.jOf (F := Ideal) (r : EReal)).toInt : ℝ) : EReal) = _
    rw [hj, toInt_ofNat_small _ (by omega)]; push_cast; rfl
  unfold Lane.lane
  rw [entry_coe fp g hg, entry_coe fp g hg, hs, tOf_coe, hn]
  show (reals g (lower (8191 * r)) : EReal) + ((reals g (lower (8191 * r) + 1) : EReal) - (reals g (lower (8191 * r)) : EReal))
    * (((r * 8191 : ℝ) : EReal) - ((lower (8191 * r) : ℝ) : EReal)) = _
  push_cast
  rfl

/-! ## One sample of the reference -/

/-- The insertion index of a real sample of [0, 1] on the uniform grid. -/
theorem ixAt_coe (x : Cert.ReferenceIdeal.S8388608.Idx → EReal) (xp : Cert.ReferenceIdeal.S8192.Idx → EReal)
    (hgrid : ∀ k : Fin 8192, xp (Shape.Idx.ofFin k) = (((k.val : ℝ) / 8191 : ℝ) : EReal)) (p : Fin 8388608) (r : ℝ)
    (hx : x (Shape.Idx.ofFin p) = (r : EReal)) (h1 : r ≤ 1) : Ref.ixAt (F := Ideal) x xp p = upper (8191 * r) := by
  have hset : (Finset.univ.filter fun q : Fin 8192 => FloatOps.cmpf (F := Ideal) (φ := .f32) .olt (xp (Shape.Idx.ofFin q)) (x (Shape.Idx.ofFin p)) = 1#1)
      = Finset.univ.filter fun q : Fin 8192 => ((q.val : ℝ) / 8191) < r := by
    apply Finset.filter_congr
    intro q _
    rw [hgrid, hx]
    exact (lt_iff _ _).trans EReal.coe_lt_coe_iff
  unfold Ref.ixAt
  rw [hset, card_below r h1]
  unfold upper
  have hm : ⌈8191 * r⌉₊ ≤ 8191 := Nat.ceil_le.2 (by push_cast; linarith)
  omega

/-- One sample of the reference, over the reals. -/
theorem ref_coe (x : Cert.ReferenceIdeal.S8388608.Idx → EReal) (xp fp : Cert.ReferenceIdeal.S8192.Idx → EReal)
    (hgrid : ∀ k : Fin 8192, xp (Shape.Idx.ofFin k) = (((k.val : ℝ) / 8191 : ℝ) : EReal))
    (g : Cert.ReferenceIdeal.S8192.Idx → ℝ) (hg : ∀ k, fp k = (g k : EReal)) (p : Fin 8388608) (r : ℝ)
    (hx : x (Shape.Idx.ofFin p) = (r : EReal)) (h0 : 0 ≤ r) (h1 : r ≤ 1) :
    Ref.refOut (F := Ideal) x xp fp (Shape.Idx.ofFin p)
      = ((reals g (upper (8191 * r) - 1)
        + (reals g (upper (8191 * r)) - reals g (upper (8191 * r) - 1)) * ((upper (8191 * r) : ℝ) / 8191 - ((upper (8191 * r) - 1 : ℕ) : ℝ) / 8191)⁻¹
          * (r - ((upper (8191 * r) - 1 : ℕ) : ℝ) / 8191) : ℝ) : EReal) := by
  have hu := upper_le (8191 * r) (by linarith)
  have hu1 := upper_pos (8191 * r)
  rw [Ref.refOut_apply (F := Ideal) x xp fp p (upper (8191 * r)) (ixAt_coe x xp hgrid p r hx h1) (by omega) (by omega)]
  have hhi : ¬ FloatOps.cmpf (F := Ideal) (φ := .f32) .ogt (x (Shape.Idx.ofFin p)) (Ref.ent xp 8191 (by omega)) = 1#1 := by
    rw [Ref.ent, hgrid, hx]
    refine fun h => absurd ((gt_iff _ _).1 h) (not_lt.2 (EReal.coe_le_coe_iff.2 ?_))
    norm_num; exact h1
  have hlo : ¬ FloatOps.cmpf (F := Ideal) (φ := .f32) .olt (x (Shape.Idx.ofFin p)) (Ref.ent xp 0 (by omega)) = 1#1 := by
    rw [Ref.ent, hgrid, hx]
    refine fun h => absurd ((lt_iff _ _).1 h) (not_lt.2 (EReal.coe_le_coe_iff.2 ?_))
    norm_num; exact h0
  rw [if_neg hhi, if_neg hlo]
  unfold Ref.ent
  rw [hgrid, hgrid, hx, ent_coe fp g hg, ent_coe fp g hg]
  have hne : (upper (8191 * r) : ℝ) / 8191 - ((upper (8191 * r) - 1 : ℕ) : ℝ) / 8191 ≠ 0 := by
    rw [Nat.cast_sub hu1, ← sub_div]; push_cast; norm_num
  show (reals g (upper (8191 * r) - 1) : EReal)
    + Ideal.div ((reals g (upper (8191 * r)) : EReal) - (reals g (upper (8191 * r) - 1) : EReal))
        ((((upper (8191 * r) : ℝ) / 8191 : ℝ) : EReal) - ((((upper (8191 * r) - 1 : ℕ) : ℝ) / 8191 : ℝ) : EReal))
      * ((r : EReal) - ((((upper (8191 * r) - 1 : ℕ) : ℝ) / 8191 : ℝ) : EReal)) = _
  rw [← EReal.coe_sub, ← EReal.coe_sub, ← EReal.coe_sub, div_coe _ _ hne, ← EReal.coe_mul, ← EReal.coe_add]

/-! ## The equation -/

/-- Under the precondition the reference's array is the kernel's lane at every sample. -/
theorem ref_eq_lane (x : Cert.ReferenceIdeal.S8388608.Idx → EReal) (xp fp : Cert.ReferenceIdeal.S8192.Idx → EReal) (h : Drawn x xp fp) :
    Ref.refOut (F := Ideal) x xp fp = fun j => Lane.lane (F := Ideal) fp (x j) := by
  choose g hg using h.value
  funext j
  obtain ⟨p, rfl⟩ : ∃ p : Fin 8388608, j = Shape.Idx.ofFin p := ⟨j 0, Shape.Idx.eq_ofFin j⟩
  obtain ⟨r, hx, h0, h1⟩ := h.sample (Shape.Idx.ofFin p)
  rw [ref_coe x xp fp h.grid g hg p r hx h0 h1, hx, lane_coe fp g hg r h0 h1, line_eq (reals g) r h0 h1]

end Cert.Proof.Equation

end
-- ==== Proof.lean ====
/-
  The certificate: the five claims about the kernel, its reading over the extended reals and the reference, assembled
  from the modules under Proof/. The kernel's run is in Proof/Run.lean (from Lane, Launch, Inner, Tile and Deal), the
  reference's in Proof/RefFrame.lean and Proof/RefTerm.lean, the precondition in Proof/Pre.lean, the equation in
  Proof/Equation.lean and Proof/Interp.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_drawn
public import proofs.«01_k».proof.Proof.IdealRun
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- On arguments the precondition admits, the kernel and the reference leave the same array. -/
theorem algebraic : Cert.algebraic_KernelIdeal_ReferenceIdeal_pre_drawn := fun m g m' g' hpre hargs =>
  ⟨fun c => Krn.gOut (F := Ideal) m c,
    (θ_run Cert.KernelIdeal.defs _ _).mono (fun _ h c => ⟨(h.1 c).2.2.2, (h.1 c).1, (h.1 c).2.1, (h.1 c).2.2.1⟩) (Krn.run_ideal m g),
    (θ_run Cert.ReferenceIdeal.defs _ _).mono
      (fun _ h c => ⟨(h c).1.trans (by
          rw [(hargs c).1, (hargs c).2.1, (hargs c).2.2]
          exact Equation.ref_eq_lane _ _ _ (Pre.drawn_of_fn _ _ _ (hpre c))), (h c).2⟩)
      (Ref.run_ref m' g')⟩

/-- Everything the certificate claims. -/
theorem claim : Cert.Claim :=
  ⟨Cert.Kernel.Gen.facts, Cert.KernelIdeal.Gen.facts, Cert.ReferenceIdeal.Gen.facts, Cert.Pre_drawn.Gen.facts,
    Krn.frame_kernel, Krn.frame_ideal, Krn.frame_ideal_drawn, Ref.frame_ref, Ref.frame_ref_drawn, trivial, algebraic⟩

end Cert.Proof

end
